-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x48x48x48 : Shape := ⟨5, ![4, 1, 48, 48, 48]⟩
abbrev S4x3x48x48x48 : Shape := ⟨5, ![4, 3, 48, 48, 48]⟩
abbrev S4x1x24x24x24 : Shape := ⟨5, ![4, 1, 24, 24, 24]⟩
abbrev S4x3x24x24x24 : Shape := ⟨5, ![4, 3, 24, 24, 24]⟩
abbrev S4x864x128 : Shape := ⟨3, ![4, 864, 128]⟩
abbrev S4x3x864x128 : Shape := ⟨4, ![4, 3, 864, 128]⟩
abbrev S4x108x128 : Shape := ⟨3, ![4, 108, 128]⟩
abbrev S4x3x108x128 : Shape := ⟨4, ![4, 3, 108, 128]⟩
abbrev S4x120x8 : Shape := ⟨3, ![4, 120, 8]⟩
abbrev S4x1x128 : Shape := ⟨3, ![4, 1, 128]⟩
abbrev S4x128x1 : Shape := ⟨3, ![4, 128, 1]⟩
abbrev S4x864 : Shape := ⟨2, ![4, 864]⟩
abbrev S4x864x1 : Shape := ⟨3, ![4, 864, 1]⟩
abbrev S4x1 : Shape := ⟨2, ![4, 1]⟩
abbrev S4x1x1 : Shape := ⟨3, ![4, 1, 1]⟩
abbrev S4x108 : Shape := ⟨2, ![4, 108]⟩
abbrev S4x108x1 : Shape := ⟨3, ![4, 108, 1]⟩
abbrev S128x1 : Shape := ⟨2, ![128, 1]⟩
abbrev S1x128 : Shape := ⟨2, ![1, 128]⟩
abbrev S128x128 : Shape := ⟨2, ![128, 128]⟩
abbrev S128x864 : Shape := ⟨2, ![128, 864]⟩
abbrev S128x108 : Shape := ⟨2, ![128, 108]⟩
abbrev S1x8 : Shape := ⟨2, ![1, 8]⟩
abbrev S1x128x1 : Shape := ⟨3, ![1, 128, 1]⟩
abbrev S1x1x864x128 : Shape := ⟨4, ![1, 1, 864, 128]⟩
abbrev S864x128 : Shape := ⟨2, ![864, 128]⟩
abbrev S1x1x108x128 : Shape := ⟨4, ![1, 1, 108, 128]⟩
abbrev S108x128 : Shape := ⟨2, ![108, 128]⟩
abbrev S128 : Shape := ⟨1, ![128]⟩
abbrev S1x1x128 : Shape := ⟨3, ![1, 1, 128]⟩
abbrev S1 : Shape := ⟨1, ![1]⟩
abbrev S1x1 : Shape := ⟨2, ![1, 1]⟩
abbrev S1x1x8 : Shape := ⟨3, ![1, 1, 8]⟩

abbrev nBuf : Space → Nat
  | .hbm => 13
  | .vmem => 9
  | .smem => 0
  | _ => 0

abbrev bufTy : (tb : Table) → Fin (tcTables nBuf tb) → BufTy
  | .hbm, ⟨0, _⟩ => ⟨S4x1x48x48x48, .f32⟩
  | .hbm, ⟨1, _⟩ => ⟨S4x3x48x48x48, .f32⟩
  | .hbm, ⟨2, _⟩ => ⟨S4x3x48x48x48, .f32⟩
  | .hbm, ⟨3, _⟩ => ⟨S4x1x24x24x24, .f32⟩
  | .hbm, ⟨4, _⟩ => ⟨S4x3x24x24x24, .f32⟩
  | .hbm, ⟨5, _⟩ => ⟨S4x3x24x24x24, .f32⟩
  | .hbm, ⟨6, _⟩ => ⟨S4x864x128, .f32⟩
  | .hbm, ⟨7, _⟩ => ⟨S4x3x864x128, .f32⟩
  | .hbm, ⟨8, _⟩ => ⟨S4x3x864x128, .f32⟩
  | .hbm, ⟨9, _⟩ => ⟨S4x108x128, .f32⟩
  | .hbm, ⟨10, _⟩ => ⟨S4x3x108x128, .f32⟩
  | .hbm, ⟨11, _⟩ => ⟨S4x3x108x128, .f32⟩
  | .hbm, ⟨12, _⟩ => ⟨S4x120x8, .f32⟩
  | .local _ .vmem, ⟨0, _⟩ => ⟨S4x864x128, .f32⟩
  | .local _ .vmem, ⟨1, _⟩ => ⟨S4x3x864x128, .f32⟩
  | .local _ .vmem, ⟨2, _⟩ => ⟨S4x3x864x128, .f32⟩
  | .local _ .vmem, ⟨3, _⟩ => ⟨S4x108x128, .f32⟩
  | .local _ .vmem, ⟨4, _⟩ => ⟨S4x3x108x128, .f32⟩
  | .local _ .vmem, ⟨5, _⟩ => ⟨S4x3x108x128, .f32⟩
  | .local _ .vmem, ⟨6, _⟩ => ⟨S4x120x8, .f32⟩
  | .local _ .vmem, ⟨7, _⟩ => ⟨S4x864x128, .f32⟩
  | .local _ .vmem, ⟨8, _⟩ => ⟨S4x108x128, .f32⟩
  | _, _ => ⟨S4x1x48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_19 : BitVec 32 := 0#32
  let c60_i32 : BitVec 32 := 60#32
  let v35 : BitVec 32 := Scalar.addi c0_i32_19 c60_i32
  let c1_i32 : BitVec 32 := 1#32
  ⟨c0_i32_19, v35, c1_i32⟩
@[reducible] def k0_t2_loop : Scf.Loop 32 :=
  let c0_i32_22 : BitVec 32 := 0#32
  let c60_i32_23 : BitVec 32 := 60#32
  let v44 : BitVec 32 := Scalar.addi c0_i32_22 c60_i32_23
  let c1_i32_24 : BitVec 32 := 1#32
  ⟨c0_i32_22, v44, c1_i32_24⟩
@[reducible] def k0_t3_loop : Scf.Loop 32 :=
  let c0_i32_147 : BitVec 32 := 0#32
  let c20_i32 : BitVec 32 := 20#32
  let v310 : BitVec 32 := Scalar.addi c0_i32_147 c20_i32
  let c1_i32_148 : BitVec 32 := 1#32
  ⟨c0_i32_147, v310, c1_i32_148⟩
def k0_off1 (k0_t3 : Fin k0_t3_loop.trips) : Fin 3 → Nat :=
  let c0_564 : Index := 0#32
  let c0_i32_147 : BitVec 32 := 0#32
  let c1_i32_148 : BitVec 32 := 1#32
  let arg9 : BitVec 32 := Scf.iv c0_i32_147 c1_i32_148 k0_t3
  let v1215 : Index := Scalar.indexCast arg9
  let c0_565 : Index := 0#32
  ![0, v1215.toNat, 0]
@[reducible] def k0_t4_loop : Scf.Loop 32 :=
  let c0_i32_273 : BitVec 32 := 0#32
  let c20_i32_274 : BitVec 32 := 20#32
  let v566 : BitVec 32 := Scalar.addi c0_i32_273 c20_i32_274
  let c1_i32_275 : BitVec 32 := 1#32
  ⟨c0_i32_273, v566, c1_i32_275⟩
def k0_off2 (k0_t4 : Fin k0_t4_loop.trips) : Fin 3 → Nat :=
  let c1_564 : Index := 1#32
  let c0_i32_273 : BitVec 32 := 0#32
  let c1_i32_275 : BitVec 32 := 1#32
  let arg9 : BitVec 32 := Scf.iv c0_i32_273 c1_i32_275 k0_t4
  let v1215 : Index := Scalar.indexCast arg9
  let c0_565 : Index := 0#32
  ![1, v1215.toNat, 0]
@[reducible] def k0_t5_loop : Scf.Loop 32 :=
  let c0_i32_400 : BitVec 32 := 0#32
  let c20_i32_401 : BitVec 32 := 20#32
  let v822 : BitVec 32 := Scalar.addi c0_i32_400 c20_i32_401
  let c1_i32_402 : BitVec 32 := 1#32
  ⟨c0_i32_400, v822, c1_i32_402⟩
def k0_off3 (k0_t5 : Fin k0_t5_loop.trips) : Fin 3 → Nat :=
  let c2_564 : Index := 2#32
  let c0_i32_400 : BitVec 32 := 0#32
  let c1_i32_402 : BitVec 32 := 1#32
  let arg9 : BitVec 32 := Scf.iv c0_i32_400 c1_i32_402 k0_t5
  let v1215 : Index := Scalar.indexCast arg9
  let c0_565 : Index := 0#32
  ![2, v1215.toNat, 0]
@[reducible] def k0_t6_loop : Scf.Loop 32 :=
  let c0_i32_526 : BitVec 32 := 0#32
  let c20_i32_527 : BitVec 32 := 20#32
  let v1078 : BitVec 32 := Scalar.addi c0_i32_526 c20_i32_527
  let c1_i32_528 : BitVec 32 := 1#32
  ⟨c0_i32_526, v1078, c1_i32_528⟩
def k0_off4 (k0_t6 : Fin k0_t6_loop.trips) : Fin 3 → Nat :=
  let c3_564 : Index := 3#32
  let c0_i32_526 : BitVec 32 := 0#32
  let c1_i32_528 : BitVec 32 := 1#32
  let arg9 : BitVec 32 := Scf.iv c0_i32_526 c1_i32_528 k0_t6
  let v1215 : Index := Scalar.indexCast arg9
  let c0_565 : Index := 0#32
  ![3, v1215.toNat, 0]
abbrev stage0_0 : Fin 1 → Memref sig .tc .vmem S4x864x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x864x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3x864x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x108x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3x108x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3x108x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x120x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S4x1x48x48x48 : Shape := ⟨5, ![4, 1, 48, 48, 48]⟩
abbrev S4x3x48x48x48 : Shape := ⟨5, ![4, 3, 48, 48, 48]⟩
abbrev S4x1x24x24x24 : Shape := ⟨5, ![4, 1, 24, 24, 24]⟩
abbrev S4x3x24x24x24 : Shape := ⟨5, ![4, 3, 24, 24, 24]⟩
abbrev S3 : Shape := ⟨1, ![3]⟩
abbrev S48 : Shape := ⟨1, ![48]⟩
abbrev S48x48x48 : Shape := ⟨3, ![48, 48, 48]⟩
abbrev S48x48x48x1 : Shape := ⟨4, ![48, 48, 48, 1]⟩
abbrev S48x48x48x3 : Shape := ⟨4, ![48, 48, 48, 3]⟩
abbrev S110592x3 : Shape := ⟨2, ![110592, 3]⟩
abbrev S4x1x110592 : Shape := ⟨3, ![4, 1, 110592]⟩
abbrev S4x110592x1 : Shape := ⟨3, ![4, 110592, 1]⟩
abbrev S4x110592 : Shape := ⟨2, ![4, 110592]⟩
abbrev S_ : Shape := ⟨0, ![]⟩
abbrev S4x3x110592 : Shape := ⟨3, ![4, 3, 110592]⟩
abbrev S4x110592x3 : Shape := ⟨3, ![4, 110592, 3]⟩
abbrev S1x110592x3 : Shape := ⟨3, ![1, 110592, 3]⟩
abbrev S4x110592x6 : Shape := ⟨3, ![4, 110592, 6]⟩
abbrev S4x60 : Shape := ⟨2, ![4, 60]⟩
abbrev S24 : Shape := ⟨1, ![24]⟩
abbrev S24x24x24 : Shape := ⟨3, ![24, 24, 24]⟩
abbrev S24x24x24x1 : Shape := ⟨4, ![24, 24, 24, 1]⟩
abbrev S24x24x24x3 : Shape := ⟨4, ![24, 24, 24, 3]⟩
abbrev S13824x3 : Shape := ⟨2, ![13824, 3]⟩
abbrev S4x1x13824 : Shape := ⟨3, ![4, 1, 13824]⟩
abbrev S4x13824x1 : Shape := ⟨3, ![4, 13824, 1]⟩
abbrev S4x13824 : Shape := ⟨2, ![4, 13824]⟩
abbrev S4x3x13824 : Shape := ⟨3, ![4, 3, 13824]⟩
abbrev S4x13824x3 : Shape := ⟨3, ![4, 13824, 3]⟩
abbrev S1x13824x3 : Shape := ⟨3, ![1, 13824, 3]⟩
abbrev S4x13824x6 : Shape := ⟨3, ![4, 13824, 6]⟩
abbrev S4x120 : Shape := ⟨2, ![4, 120]⟩
abbrev S4x124416x6 : Shape := ⟨3, ![4, 124416, 6]⟩
abbrev S4x120x1 : Shape := ⟨3, ![4, 120, 1]⟩
abbrev S4x120x6 : Shape := ⟨3, ![4, 120, 6]⟩
abbrev S4x120x8 : Shape := ⟨3, ![4, 120, 8]⟩
abbrev S4x1 : Shape := ⟨2, ![4, 1]⟩
abbrev S4x1x1 : Shape := ⟨3, ![4, 1, 1]⟩
abbrev S4x1x6 : Shape := ⟨3, ![4, 1, 6]⟩
abbrev S4x6 : Shape := ⟨2, ![4, 6]⟩
abbrev S4x8 : Shape := ⟨2, ![4, 8]⟩
abbrev S120 : Shape := ⟨1, ![120]⟩
abbrev S1x120x1 : Shape := ⟨3, ![1, 120, 1]⟩
abbrev S4x1x8 : Shape := ⟨3, ![4, 1, 8]⟩
abbrev S4x1x3 : Shape := ⟨3, ![4, 1, 3]⟩
abbrev S4x120x3 : Shape := ⟨3, ![4, 120, 3]⟩
abbrev S1x120 : Shape := ⟨2, ![1, 120]⟩

abbrev nBuf : Space → Nat
  | .hbm => 243
  | .vmem => 0
  | .smem => 0
  | _ => 0

abbrev hbmTy0_0 (i : Nat) : BufTy := match i % 128 with
  | 0 => ⟨S4x1x48x48x48, .f32⟩
  | 1 => ⟨S4x3x48x48x48, .f32⟩
  | 2 => ⟨S4x3x48x48x48, .f32⟩
  | 3 => ⟨S4x1x24x24x24, .f32⟩
  | 4 => ⟨S4x3x24x24x24, .f32⟩
  | 5 => ⟨S4x3x24x24x24, .f32⟩
  | 6 => ⟨S3, .f32⟩
  | 7 => ⟨S3, .f32⟩
  | 8 => ⟨S48, .f32⟩
  | 9 => ⟨S48, .f32⟩
  | 10 => ⟨S48, .f32⟩
  | 11 => ⟨S48x48x48, .f32⟩
  | 12 => ⟨S48x48x48, .f32⟩
  | 13 => ⟨S48x48x48, .f32⟩
  | 14 => ⟨S48x48x48x1, .f32⟩
  | 15 => ⟨S48x48x48x1, .f32⟩
  | 16 => ⟨S48x48x48x1, .f32⟩
  | 17 => ⟨S48x48x48x3, .f32⟩
  | 18 => ⟨S110592x3, .f32⟩
  | 19 => ⟨S110592x3, .f32⟩
  | 20 => ⟨S4x1x110592, .f32⟩
  | 21 => ⟨S4x110592x1, .f32⟩
  | 22 => ⟨S4x110592, .f32⟩
  | 23 => ⟨S4x110592, .f32⟩
  | 24 => ⟨S4x110592, .f32⟩
  | 25 => ⟨S_, .f32⟩
  | 26 => ⟨S4x110592, .f32⟩
  | 27 => ⟨S4x110592, .f32⟩
  | 28 => ⟨S_, .f32⟩
  | 29 => ⟨S4x110592, .f32⟩
  | 30 => ⟨S4x110592, .f32⟩
  | 31 => ⟨S4x3x110592, .f32⟩
  | 32 => ⟨S4x110592x3, .f32⟩
  | 33 => ⟨S4x3x110592, .f32⟩
  | 34 => ⟨S4x110592x3, .f32⟩
  | 35 => ⟨S1x110592x3, .f32⟩
  | 36 => ⟨S4x110592x3, .f32⟩
  | 37 => ⟨S4x110592x3, .f32⟩
  | 38 => ⟨S1x110592x3, .f32⟩
  | 39 => ⟨S4x110592x3, .f32⟩
  | 40 => ⟨S4x110592x3, .f32⟩
  | 41 => ⟨S_, .f32⟩
  | 42 => ⟨S4x110592x3, .f32⟩
  | 43 => ⟨S4x110592x3, .f32⟩
  | 44 => ⟨S1x110592x3, .f32⟩
  | 45 => ⟨S4x110592x3, .f32⟩
  | 46 => ⟨S4x110592x3, .f32⟩
  | 47 => ⟨S4x110592x6, .f32⟩
  | 48 => ⟨S4x60, .f32⟩
  | 49 => ⟨S4x60, .i32⟩
  | 50 => ⟨S24, .f32⟩
  | 51 => ⟨S24, .f32⟩
  | 52 => ⟨S24, .f32⟩
  | 53 => ⟨S24x24x24, .f32⟩
  | 54 => ⟨S24x24x24, .f32⟩
  | 55 => ⟨S24x24x24, .f32⟩
  | 56 => ⟨S24x24x24x1, .f32⟩
  | 57 => ⟨S24x24x24x1, .f32⟩
  | 58 => ⟨S24x24x24x1, .f32⟩
  | 59 => ⟨S24x24x24x3, .f32⟩
  | 60 => ⟨S13824x3, .f32⟩
  | 61 => ⟨S13824x3, .f32⟩
  | 62 => ⟨S4x1x13824, .f32⟩
  | 63 => ⟨S4x13824x1, .f32⟩
  | 64 => ⟨S4x13824, .f32⟩
  | 65 => ⟨S4x13824, .f32⟩
  | 66 => ⟨S4x13824, .f32⟩
  | 67 => ⟨S_, .f32⟩
  | 68 => ⟨S4x13824, .f32⟩
  | 69 => ⟨S4x13824, .f32⟩
  | 70 => ⟨S_, .f32⟩
  | 71 => ⟨S4x13824, .f32⟩
  | 72 => ⟨S4x13824, .f32⟩
  | 73 => ⟨S4x3x13824, .f32⟩
  | 74 => ⟨S4x13824x3, .f32⟩
  | 75 => ⟨S4x3x13824, .f32⟩
  | 76 => ⟨S4x13824x3, .f32⟩
  | 77 => ⟨S1x13824x3, .f32⟩
  | 78 => ⟨S4x13824x3, .f32⟩
  | 79 => ⟨S4x13824x3, .f32⟩
  | 80 => ⟨S1x13824x3, .f32⟩
  | 81 => ⟨S4x13824x3, .f32⟩
  | 82 => ⟨S4x13824x3, .f32⟩
  | 83 => ⟨S_, .f32⟩
  | 84 => ⟨S4x13824x3, .f32⟩
  | 85 => ⟨S4x13824x3, .f32⟩
  | 86 => ⟨S1x13824x3, .f32⟩
  | 87 => ⟨S4x13824x3, .f32⟩
  | 88 => ⟨S4x13824x3, .f32⟩
  | 89 => ⟨S4x13824x6, .f32⟩
  | 90 => ⟨S4x60, .f32⟩
  | 91 => ⟨S4x60, .i32⟩
  | 92 => ⟨S4x120, .f32⟩
  | 93 => ⟨S_, .i32⟩
  | 94 => ⟨S4x60, .i32⟩
  | 95 => ⟨S4x60, .i32⟩
  | 96 => ⟨S4x120, .i32⟩
  | 97 => ⟨S4x124416x6, .f32⟩
  | 98 => ⟨S4x120x1, .i32⟩
  | 99 => ⟨S_, .i32⟩
  | 100 => ⟨S4x120x1, .i32⟩
  | 101 => ⟨S4x120x1, .i1⟩
  | 102 => ⟨S_, .i32⟩
  | 103 => ⟨S4x120x1, .i32⟩
  | 104 => ⟨S4x120x1, .i32⟩
  | 105 => ⟨S4x120x1, .i32⟩
  | 106 => ⟨S4x120x6, .f32⟩
  | 107 => ⟨S_, .f32⟩
  | 108 => ⟨S4x120x8, .f32⟩
  | 109 => ⟨S4x120x8, .f32⟩
  | 110 => ⟨S_, .f32⟩
  | 111 => ⟨S4x120, .f32⟩
  | 112 => ⟨S4x120, .i1⟩
  | 113 => ⟨S_, .i32⟩
  | 114 => ⟨S_, .i32⟩
  | 115 => ⟨S4x120, .f32⟩
  | 116 => ⟨S4x120x6, .f32⟩
  | 117 => ⟨S_, .i32⟩
  | 118 => ⟨S_, .i32⟩
  | 119 => ⟨S4x120x8, .f32⟩
  | 120 => ⟨S4x120, .i1⟩
  | 121 => ⟨S_, .i32⟩
  | 122 => ⟨S_, .i1⟩
  | 123 => ⟨S_, .i32⟩
  | 124 => ⟨S_, .i32⟩
  | 125 => ⟨S_, .f32⟩
  | 126 => ⟨S_, .f32⟩
  | 127 => ⟨S4x120, .f32⟩
  | _ => ⟨S4x1x48x48x48, .f32⟩

abbrev hbmTy0_1 (i : Nat) : BufTy := match i % 128 with
  | 0 => ⟨S4x120, .f32⟩
  | 1 => ⟨S4x1, .f32⟩
  | 2 => ⟨S4x1, .i32⟩
  | 3 => ⟨S_, .f32⟩
  | 4 => ⟨S4x1, .f32⟩
  | 5 => ⟨S4x1, .i1⟩
  | 6 => ⟨S_, .i32⟩
  | 7 => ⟨S4x1, .i32⟩
  | 8 => ⟨S4x1, .i1⟩
  | 9 => ⟨S_, .i32⟩
  | 10 => ⟨S4x1, .i32⟩
  | 11 => ⟨S4x1, .i32⟩
  | 12 => ⟨S4x1, .i32⟩
  | 13 => ⟨S4x1x1, .i32⟩
  | 14 => ⟨S4x1, .f32⟩
  | 15 => ⟨S4x1x1, .i32⟩
  | 16 => ⟨S_, .i32⟩
  | 17 => ⟨S4x1x1, .i32⟩
  | 18 => ⟨S4x1x1, .i1⟩
  | 19 => ⟨S_, .i32⟩
  | 20 => ⟨S4x1x1, .i32⟩
  | 21 => ⟨S4x1x1, .i32⟩
  | 22 => ⟨S4x1x1, .i32⟩
  | 23 => ⟨S4x1x6, .f32⟩
  | 24 => ⟨S_, .f32⟩
  | 25 => ⟨S4x1, .f32⟩
  | 26 => ⟨S4x6, .f32⟩
  | 27 => ⟨S4x8, .f32⟩
  | 28 => ⟨S120, .i32⟩
  | 29 => ⟨S_, .i32⟩
  | 30 => ⟨S120, .i32⟩
  | 31 => ⟨S120, .i1⟩
  | 32 => ⟨S1x120x1, .i1⟩
  | 33 => ⟨S4x1x1, .i1⟩
  | 34 => ⟨S4x120x1, .i1⟩
  | 35 => ⟨S4x120x1, .i1⟩
  | 36 => ⟨S4x120x1, .i1⟩
  | 37 => ⟨S4x1x8, .f32⟩
  | 38 => ⟨S4x120x8, .i1⟩
  | 39 => ⟨S4x120x8, .f32⟩
  | 40 => ⟨S4x120x8, .f32⟩
  | 41 => ⟨S4x1x3, .f32⟩
  | 42 => ⟨S4x1x3, .f32⟩
  | 43 => ⟨S_, .f32⟩
  | 44 => ⟨S4x1x3, .f32⟩
  | 45 => ⟨S4x1x3, .f32⟩
  | 46 => ⟨S4x1x3, .f32⟩
  | 47 => ⟨S_, .f32⟩
  | 48 => ⟨S4x1x3, .f32⟩
  | 49 => ⟨S4x1x3, .f32⟩
  | 50 => ⟨S4x1x3, .f32⟩
  | 51 => ⟨S4x120x3, .f32⟩
  | 52 => ⟨S4x120x3, .f32⟩
  | 53 => ⟨S_, .f32⟩
  | 54 => ⟨S4x120x3, .f32⟩
  | 55 => ⟨S4x120x3, .f32⟩
  | 56 => ⟨S4x120x3, .f32⟩
  | 57 => ⟨S4x120x3, .f32⟩
  | 58 => ⟨S4x120x3, .f32⟩
  | 59 => ⟨S_, .f32⟩
  | 60 => ⟨S4x120x3, .f32⟩
  | 61 => ⟨S4x120x3, .f32⟩
  | 62 => ⟨S4x120x3, .f32⟩
  | 63 => ⟨S4x120x3, .f32⟩
  | 64 => ⟨S4x120x3, .f32⟩
  | 65 => ⟨S4x120x3, .f32⟩
  | 66 => ⟨S4x120x3, .f32⟩
  | 67 => ⟨S4x120x3, .f32⟩
  | 68 => ⟨S_, .f32⟩
  | 69 => ⟨S4x120x3, .f32⟩
  | 70 => ⟨S4x120x3, .f32⟩
  | 71 => ⟨S4x120x1, .f32⟩
  | 72 => ⟨S4x120, .f32⟩
  | 73 => ⟨S4x120x1, .f32⟩
  | 74 => ⟨S4x120, .f32⟩
  | 75 => ⟨S4x120, .f32⟩
  | 76 => ⟨S4x120x1, .f32⟩
  | 77 => ⟨S4x120, .f32⟩
  | 78 => ⟨S4x120, .f32⟩
  | 79 => ⟨S4x1x1, .f32⟩
  | 80 => ⟨S4x1, .f32⟩
  | 81 => ⟨S4x1x1, .f32⟩
  | 82 => ⟨S4x1, .f32⟩
  | 83 => ⟨S4x1, .f32⟩
  | 84 => ⟨S4x1x1, .f32⟩
  | 85 => ⟨S4x1, .f32⟩
  | 86 => ⟨S4x1, .f32⟩
  | 87 => ⟨S4x120x3, .f32⟩
  | 88 => ⟨S4x120x1, .f32⟩
  | 89 => ⟨S4x120, .f32⟩
  | 90 => ⟨S4x120x1, .f32⟩
  | 91 => ⟨S4x120, .f32⟩
  | 92 => ⟨S4x120, .f32⟩
  | 93 => ⟨S4x120x1, .f32⟩
  | 94 => ⟨S4x120, .f32⟩
  | 95 => ⟨S4x120, .f32⟩
  | 96 => ⟨S4x120, .f32⟩
  | 97 => ⟨S4x120, .f32⟩
  | 98 => ⟨S4x120, .f32⟩
  | 99 => ⟨S_, .f32⟩
  | 100 => ⟨S4x120, .f32⟩
  | 101 => ⟨S4x120, .f32⟩
  | 102 => ⟨S4x120, .f32⟩
  | 103 => ⟨S_, .f32⟩
  | 104 => ⟨S4x120, .f32⟩
  | 105 => ⟨S4x120, .i1⟩
  | 106 => ⟨S4x120, .i1⟩
  | 107 => ⟨S120, .i32⟩
  | 108 => ⟨S1x120, .i32⟩
  | 109 => ⟨S4x120, .i32⟩
  | 110 => ⟨S4x120, .i32⟩
  | 111 => ⟨S4x120, .i1⟩
  | 112 => ⟨S4x120, .i1⟩
  | 113 => ⟨S_, .i32⟩
  | 114 => ⟨S_, .i32⟩
  | _ => ⟨S4x1x48x48x48, .f32⟩

abbrev hbmTy (i : Nat) : BufTy := match i / 128 with
  | 0 => hbmTy0_0 i
  | 1 => hbmTy0_1 i
  | _ => ⟨S4x1x48x48x48, .f32⟩

abbrev bufTy : (tb : Table) → Fin (tcTables nBuf tb) → BufTy
  | .hbm, ⟨i, _⟩ => hbmTy i
  | _, _ => ⟨S4x1x48x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_values : Ref sig .tc := ⟨.hbm, 48, rfl⟩
abbrev main_indices : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_6 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_values_7 : Ref sig .tc := ⟨.hbm, 90, rfl⟩
abbrev main_indices_8 : Ref sig .tc := ⟨.hbm, 91, rfl⟩
abbrev main_v74 : Ref sig .tc := ⟨.hbm, 92, rfl⟩
abbrev main_c : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_call0_c : Ref sig .tc := ⟨.hbm, 99, rfl⟩
abbrev main_call0_v0 : Ref sig .tc := ⟨.hbm, 100, rfl⟩
abbrev main_call0_v1 : Ref sig .tc := ⟨.hbm, 101, rfl⟩
abbrev main_call0_c_0 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_v80 : Ref sig .tc := ⟨.hbm, 106, rfl⟩
abbrev main_cst_9 : Ref sig .tc := ⟨.hbm, 107, rfl⟩
abbrev main_v81 : Ref sig .tc := ⟨.hbm, 108, rfl⟩
abbrev main_v82 : Ref sig .tc := ⟨.hbm, 109, rfl⟩
abbrev main_cst_10 : Ref sig .tc := ⟨.hbm, 110, rfl⟩
abbrev main_v83 : Ref sig .tc := ⟨.hbm, 111, rfl⟩
abbrev main_v84 : Ref sig .tc := ⟨.hbm, 112, rfl⟩
abbrev main_c_11 : Ref sig .tc := ⟨.hbm, 113, rfl⟩
abbrev main_c_12 : Ref sig .tc := ⟨.hbm, 114, rfl⟩
abbrev main_v85_0 : Ref sig .tc := ⟨.hbm, 115, rfl⟩
abbrev main_v85_1 : Ref sig .tc := ⟨.hbm, 116, rfl⟩
abbrev main_v85_2 : Ref sig .tc := ⟨.hbm, 117, rfl⟩
abbrev main_v85_3 : Ref sig .tc := ⟨.hbm, 118, rfl⟩
abbrev main_v85_4 : Ref sig .tc := ⟨.hbm, 119, rfl⟩
abbrev main_v85_5 : Ref sig .tc := ⟨.hbm, 120, rfl⟩
abbrev main_while0c_c_18 : Ref sig .tc := ⟨.hbm, 121, rfl⟩
abbrev main_while0c_v86 : Ref sig .tc := ⟨.hbm, 122, rfl⟩
abbrev main_while0b_c_18 : Ref sig .tc := ⟨.hbm, 123, rfl⟩
abbrev main_while0b_v86 : Ref sig .tc := ⟨.hbm, 124, rfl⟩
abbrev main_while0b_cst_19 : Ref sig .tc := ⟨.hbm, 125, rfl⟩
abbrev main_while0b_call1_v0 : Ref sig .tc := ⟨.hbm, 126, rfl⟩
abbrev main_while0b_call1_v1 : Ref sig .tc := ⟨.hbm, 127, rfl⟩
abbrev main_while0b_v87 : Ref sig .tc := ⟨.hbm, 128, rfl⟩
abbrev main_while0b_values_20 : Ref sig .tc := ⟨.hbm, 129, rfl⟩
abbrev main_while0b_indices_21 : Ref sig .tc := ⟨.hbm, 130, rfl⟩
abbrev main_while0b_cst_22 : Ref sig .tc := ⟨.hbm, 131, rfl⟩
abbrev main_while0b_v88 : Ref sig .tc := ⟨.hbm, 132, rfl⟩
abbrev main_while0b_v89 : Ref sig .tc := ⟨.hbm, 133, rfl⟩
abbrev main_while0b_call2_c : Ref sig .tc := ⟨.hbm, 134, rfl⟩
abbrev main_while0b_call2_v0 : Ref sig .tc := ⟨.hbm, 135, rfl⟩
abbrev main_while0b_call2_v1 : Ref sig .tc := ⟨.hbm, 136, rfl⟩
abbrev main_while0b_call2_c_0 : Ref sig .tc := ⟨.hbm, 137, rfl⟩
abbrev main_while0b_call2_v2 : Ref sig .tc := ⟨.hbm, 138, rfl⟩
abbrev main_while0b_call2_v3 : Ref sig .tc := ⟨.hbm, 139, rfl⟩
abbrev main_while0b_call2_v4 : Ref sig .tc := ⟨.hbm, 140, rfl⟩
abbrev main_while0b_call2_v5 : Ref sig .tc := ⟨.hbm, 141, rfl⟩
abbrev main_while0b_v90 : Ref sig .tc := ⟨.hbm, 142, rfl⟩
abbrev main_while0b_v91 : Ref sig .tc := ⟨.hbm, 143, rfl⟩
abbrev main_while0b_call3_c : Ref sig .tc := ⟨.hbm, 144, rfl⟩
abbrev main_while0b_call3_v0 : Ref sig .tc := ⟨.hbm, 145, rfl⟩
abbrev main_while0b_call3_v1 : Ref sig .tc := ⟨.hbm, 146, rfl⟩
abbrev main_while0b_call3_c_0 : Ref sig .tc := ⟨.hbm, 147, rfl⟩
abbrev main_while0b_call3_v2 : Ref sig .tc := ⟨.hbm, 148, rfl⟩
abbrev main_while0b_call3_v3 : Ref sig .tc := ⟨.hbm, 149, rfl⟩
abbrev main_while0b_call3_v4 : Ref sig .tc := ⟨.hbm, 150, rfl⟩
abbrev main_while0b_v92 : Ref sig .tc := ⟨.hbm, 151, rfl⟩
abbrev main_while0b_cst_23 : Ref sig .tc := ⟨.hbm, 152, rfl⟩
abbrev main_while0b_v93 : Ref sig .tc := ⟨.hbm, 153, rfl⟩
abbrev main_while0b_v94 : Ref sig .tc := ⟨.hbm, 154, rfl⟩
abbrev main_while0b_v95 : Ref sig .tc := ⟨.hbm, 155, rfl⟩
abbrev main_while0b_v96 : Ref sig .tc := ⟨.hbm, 156, rfl⟩
abbrev main_while0b_v97 : Ref sig .tc := ⟨.hbm, 157, rfl⟩
abbrev main_while0b_v98 : Ref sig .tc := ⟨.hbm, 158, rfl⟩
abbrev main_while0b_v99 : Ref sig .tc := ⟨.hbm, 159, rfl⟩
abbrev main_while0b_v100 : Ref sig .tc := ⟨.hbm, 160, rfl⟩
abbrev main_while0b_v101 : Ref sig .tc := ⟨.hbm, 161, rfl⟩
abbrev main_while0b_v102 : Ref sig .tc := ⟨.hbm, 162, rfl⟩
abbrev main_while0b_v103 : Ref sig .tc := ⟨.hbm, 163, rfl⟩
abbrev main_while0b_v104 : Ref sig .tc := ⟨.hbm, 164, rfl⟩
abbrev main_while0b_v105 : Ref sig .tc := ⟨.hbm, 165, rfl⟩
abbrev main_while0b_call4_v0 : Ref sig .tc := ⟨.hbm, 166, rfl⟩
abbrev main_while0b_call4_v1 : Ref sig .tc := ⟨.hbm, 167, rfl⟩
abbrev main_while0b_v106 : Ref sig .tc := ⟨.hbm, 168, rfl⟩
abbrev main_while0b_v107 : Ref sig .tc := ⟨.hbm, 169, rfl⟩
abbrev main_while0b_v108 : Ref sig .tc := ⟨.hbm, 170, rfl⟩
abbrev main_while0b_cst_24 : Ref sig .tc := ⟨.hbm, 171, rfl⟩
abbrev main_while0b_v109 : Ref sig .tc := ⟨.hbm, 172, rfl⟩
abbrev main_while0b_v110 : Ref sig .tc := ⟨.hbm, 173, rfl⟩
abbrev main_while0b_v111 : Ref sig .tc := ⟨.hbm, 174, rfl⟩
abbrev main_while0b_cst_25 : Ref sig .tc := ⟨.hbm, 175, rfl⟩
abbrev main_while0b_v112 : Ref sig .tc := ⟨.hbm, 176, rfl⟩
abbrev main_while0b_v113 : Ref sig .tc := ⟨.hbm, 177, rfl⟩
abbrev main_while0b_v114 : Ref sig .tc := ⟨.hbm, 178, rfl⟩
abbrev main_while0b_v115 : Ref sig .tc := ⟨.hbm, 179, rfl⟩
abbrev main_while0b_v116 : Ref sig .tc := ⟨.hbm, 180, rfl⟩
abbrev main_while0b_cst_26 : Ref sig .tc := ⟨.hbm, 181, rfl⟩
abbrev main_while0b_v117 : Ref sig .tc := ⟨.hbm, 182, rfl⟩
abbrev main_while0b_v118 : Ref sig .tc := ⟨.hbm, 183, rfl⟩
abbrev main_while0b_v119 : Ref sig .tc := ⟨.hbm, 184, rfl⟩
abbrev main_while0b_v120 : Ref sig .tc := ⟨.hbm, 185, rfl⟩
abbrev main_while0b_v121 : Ref sig .tc := ⟨.hbm, 186, rfl⟩
abbrev main_while0b_cst_27 : Ref sig .tc := ⟨.hbm, 187, rfl⟩
abbrev main_while0b_v122 : Ref sig .tc := ⟨.hbm, 188, rfl⟩
abbrev main_while0b_v123 : Ref sig .tc := ⟨.hbm, 189, rfl⟩
abbrev main_while0b_v124 : Ref sig .tc := ⟨.hbm, 190, rfl⟩
abbrev main_while0b_v125 : Ref sig .tc := ⟨.hbm, 191, rfl⟩
abbrev main_while0b_v126 : Ref sig .tc := ⟨.hbm, 192, rfl⟩
abbrev main_while0b_v127 : Ref sig .tc := ⟨.hbm, 193, rfl⟩
abbrev main_while0b_v128 : Ref sig .tc := ⟨.hbm, 194, rfl⟩
abbrev main_while0b_v129 : Ref sig .tc := ⟨.hbm, 195, rfl⟩
abbrev main_while0b_cst_28 : Ref sig .tc := ⟨.hbm, 196, rfl⟩
abbrev main_while0b_v130 : Ref sig .tc := ⟨.hbm, 197, rfl⟩
abbrev main_while0b_v131 : Ref sig .tc := ⟨.hbm, 198, rfl⟩
abbrev main_while0b_v132 : Ref sig .tc := ⟨.hbm, 199, rfl⟩
abbrev main_while0b_v133 : Ref sig .tc := ⟨.hbm, 200, rfl⟩
abbrev main_while0b_v134 : Ref sig .tc := ⟨.hbm, 201, rfl⟩
abbrev main_while0b_v135 : Ref sig .tc := ⟨.hbm, 202, rfl⟩
abbrev main_while0b_v136 : Ref sig .tc := ⟨.hbm, 203, rfl⟩
abbrev main_while0b_v137 : Ref sig .tc := ⟨.hbm, 204, rfl⟩
abbrev main_while0b_v138 : Ref sig .tc := ⟨.hbm, 205, rfl⟩
abbrev main_while0b_v139 : Ref sig .tc := ⟨.hbm, 206, rfl⟩
abbrev main_while0b_v140 : Ref sig .tc := ⟨.hbm, 207, rfl⟩
abbrev main_while0b_v141 : Ref sig .tc := ⟨.hbm, 208, rfl⟩
abbrev main_while0b_v142 : Ref sig .tc := ⟨.hbm, 209, rfl⟩
abbrev main_while0b_v143 : Ref sig .tc := ⟨.hbm, 210, rfl⟩
abbrev main_while0b_v144 : Ref sig .tc := ⟨.hbm, 211, rfl⟩
abbrev main_while0b_v145 : Ref sig .tc := ⟨.hbm, 212, rfl⟩
abbrev main_while0b_v146 : Ref sig .tc := ⟨.hbm, 213, rfl⟩
abbrev main_while0b_v147 : Ref sig .tc := ⟨.hbm, 214, rfl⟩
abbrev main_while0b_v148 : Ref sig .tc := ⟨.hbm, 215, rfl⟩
abbrev main_while0b_v149 : Ref sig .tc := ⟨.hbm, 216, rfl⟩
abbrev main_while0b_v150 : Ref sig .tc := ⟨.hbm, 217, rfl⟩
abbrev main_while0b_v151 : Ref sig .tc := ⟨.hbm, 218, rfl⟩
abbrev main_while0b_v152 : Ref sig .tc := ⟨.hbm, 219, rfl⟩
abbrev main_while0b_v153 : Ref sig .tc := ⟨.hbm, 220, rfl⟩
abbrev main_while0b_v154 : Ref sig .tc := ⟨.hbm, 221, rfl⟩
abbrev main_while0b_v155 : Ref sig .tc := ⟨.hbm, 222, rfl⟩
abbrev main_while0b_v156 : Ref sig .tc := ⟨.hbm, 223, rfl⟩
abbrev main_while0b_v157 : Ref sig .tc := ⟨.hbm, 224, rfl⟩
abbrev main_while0b_v158 : Ref sig .tc := ⟨.hbm, 225, rfl⟩
abbrev main_while0b_v159 : Ref sig .tc := ⟨.hbm, 226, rfl⟩
abbrev main_while0b_cst_29 : Ref sig .tc := ⟨.hbm, 227, rfl⟩
abbrev main_while0b_v160 : Ref sig .tc := ⟨.hbm, 228, rfl⟩
abbrev main_while0b_v161 : Ref sig .tc := ⟨.hbm, 229, rfl⟩
abbrev main_while0b_v162 : Ref sig .tc := ⟨.hbm, 230, rfl⟩
abbrev main_while0b_cst_30 : Ref sig .tc := ⟨.hbm, 231, rfl⟩
abbrev main_while0b_v163 : Ref sig .tc := ⟨.hbm, 232, rfl⟩
abbrev main_while0b_v164 : Ref sig .tc := ⟨.hbm, 233, rfl⟩
abbrev main_while0b_v165 : Ref sig .tc := ⟨.hbm, 234, rfl⟩
abbrev main_while0b_v166 : Ref sig .tc := ⟨.hbm, 235, rfl⟩
abbrev main_while0b_v167 : Ref sig .tc := ⟨.hbm, 236, rfl⟩
abbrev main_while0b_v168 : Ref sig .tc := ⟨.hbm, 237, rfl⟩
abbrev main_while0b_v169 : Ref sig .tc := ⟨.hbm, 238, rfl⟩
abbrev main_while0b_v170 : Ref sig .tc := ⟨.hbm, 239, rfl⟩
abbrev main_while0b_v171 : Ref sig .tc := ⟨.hbm, 240, rfl⟩
abbrev main_while0b_c_31 : Ref sig .tc := ⟨.hbm, 241, rfl⟩
abbrev main_while0b_v172 : Ref sig .tc := ⟨.hbm, 242, rfl⟩

abbrev nD : Nat := 1
abbrev τ : Topo := Topo.v7x

variable {F : FTy → Type} [FloatOps F]

abbrev main_while0_count : Scf.Loop 32 := ⟨0#32, 20#32, 1#32⟩
-- ==== Proof.RefInit.lean ====
/-
  The fields of the state the reference's loop starts from.
-/
module

public import proofs.«01_k».proof.Proof.Gen.ReferenceIdeal.Step

@[expose] public section

noncomputable section

namespace Cert.Proof

open Idealize.ShloMosaic Idealize.ShloMosaic.TcCoe Idealize.SL.Sem Cert.ReferenceIdeal Cert.ReferenceIdeal.Gen Cert.ReferenceIdeal.Step

variable {F : FTy → Type} [FloatOps F]
variable (main_arg0 : (⟨S4x1x48x48x48, .f32⟩ : BufTy).Contents (Elt F)) (main_arg1 : (⟨S4x3x48x48x48, .f32⟩ : BufTy).Contents (Elt F)) (main_arg2 : (⟨S4x3x48x48x48, .f32⟩ : BufTy).Contents (Elt F)) (main_arg3 : (⟨S4x1x24x24x24, .f32⟩ : BufTy).Contents (Elt F)) (main_arg4 : (⟨S4x3x24x24x24, .f32⟩ : BufTy).Contents (Elt F)) (main_arg5 : (⟨S4x3x24x24x24, .f32⟩ : BufTy).Contents (Elt F))

theorem init_0 : (init main_arg0 main_arg1 main_arg2 main_arg3 main_arg4 main_arg5).main_v85_0 = A_main_v74 main_arg0 main_arg1 main_arg2 main_arg3 main_arg4 main_arg5 := by
  unfold init
  dsimp only
theorem init_1 : (init main_arg0 main_arg1 main_arg2 main_arg3 main_arg4 main_arg5).main_v85_1 = A_main_v80 main_arg0 main_arg1 main_arg2 main_arg3 main_arg4 main_arg5 := by
  unfold init
  dsimp only
theorem init_4 : (init main_arg0 main_arg1 main_arg2 main_arg3 main_arg4 main_arg5).main_v85_4 = K_main_v82 := by
  unfold init
  dsimp only
theorem init_5 : (init main_arg0 main_arg1 main_arg2 main_arg3 main_arg4 main_arg5).main_v85_5 = A_main_v84 main_arg0 main_arg1 main_arg2 main_arg3 main_arg4 main_arg5 := by
  unfold init
  dsimp only

end Cert.Proof

end
-- ==== Proof.RefRun.lean ====
/-
  The reference's run stated over one trip of its loop. The generated module of this statement stops at the entry of
  the loop: what the operations before the loop leave is too large for its heartbeat limit. Here the same text is kept
  with the entry read under a larger limit.
-/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v85_4) = s.main_v85_4
  f_5 : V0 (Proc.devRef .tc main_v85_5) = s.main_v85_5
  f_0 : V0 (Proc.devRef .tc main_v85_0) = s.main_v85_0
  f_1 : V0 (Proc.devRef .tc main_v85_1) = s.main_v85_1
  n_2 : V0 (Proc.devRef .tc main_v85_2) = constantI S_ 32 (BitVec.ofNat 32 j)
  n_3 : V0 (Proc.devRef .tc main_v85_3) = constantI S_ 32 (BitVec.ofNat 32 j)

variable {V0 s j}

set_option maxRecDepth 8192 in
theorem al_0 (h : Holds V0 s j) : (constantI S_ 32 1#32 : (Proc.devRef .tc main_while0b_c_18 : DevRef τ sig).ty.Contents (Elt F)) = Cert.ReferenceIdeal.Step.b0 j s := by
  unfold Cert.ReferenceIdeal.Step.b0
  rfl
set_option maxRecDepth 8192 in
theorem al_1 (h : Holds V0 s j) : (addi (V0 (Proc.devRef .tc main_v85_3)) (constantI S_ 32 1#32) : (Proc.devRef .tc main_while0b_v86 : DevRef τ sig).ty.Contents (Elt F)) = Cert.ReferenceIdeal.Step.b1 j s := by
  unfold Cert.ReferenceIdeal.Step.b1
  rw [← al_0 h, h.n_3]
  try rfl
set_option maxRecDepth 8192 in
theorem al_2 (h : Holds V0 s j) : (constant S_ .f32 0xFF800000#32 : (Proc.devRef .tc main_while0b_cst_19 : DevRef τ sig).ty.Contents (Elt F)) = Cert.ReferenceIdeal.Step.b2 j s := by
  unfold Cert.ReferenceIdeal.Step.b2
  rfl
set_option maxRecDepth 8192 in
theorem al_3 (h : Holds V0 s j) : (id (constant S_ .f32 0xFF800000#32) : (Proc.devRef .tc main_while0b_call1_v0 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (broadcastInDim S4x120 ![] bcast_S_S4x120 (id (constant S_ .f32 0xFF800000#32)) : (Proc.devRef .tc main_while0b_call1_v1 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (res_main_while0b_v87 V0 : (Proc.devRef .tc main_while0b_v87 : DevRef τ sig).ty.Contents (Elt F)) = Cert.ReferenceIdeal.Step.b5 j s := by
  unfold res_main_while0b_v87 Cert.ReferenceIdeal.Step.b5
  rw [← al_4 h, h.f_5, h.f_0]
  try rfl
set_option maxRecDepth 8192 in
theorem al_6 (h : Holds V0 s j) : ((Host.topK S4x1 1 (FloatOps.cmpfTotal .gt) (res_main_while0b_v87 V0) sliceFits_S4x120_S4x1).1 : (Proc.devRef .tc main_while0b_values_20 : DevRef τ sig).ty.Contents (Elt F)) = Cert.ReferenceIdeal.Step.b6 j s := by
  unfold Cert.ReferenceIdeal.Step.b6
  rw [← al_5 h]
  try rfl
set_option maxRecDepth 8192 in
theorem al_7 (h : Holds V0 s j) : (res_main_while0b_indices_21 V0 : (Proc.devRef .tc main_while0b_indices_21 : DevRef τ sig).ty.Contents (Elt F)) = Cert.ReferenceIdeal.Step.b7 j s := by
  unfold res_main_while0b_indices_21 Cert.ReferenceIdeal.Step.b7
  rw [← al_5 h]
  try rfl
set_option maxRecDepth 8192 in
theorem al_8 (h : Holds V0 s j) : (constant S_ .f32 0xFF800000#32 : (Proc.devRef .tc main_while0b_cst_22 : DevRef τ sig).ty.Contents (Elt F)) = Cert.ReferenceIdeal.Step.b8 j s := by
  unfold Cert.ReferenceIdeal.Step.b8
  rfl
set_option maxRecDepth 8192 in
theorem al_9 (h : Holds V0 s j) : (broadcastInDim S4x1 ![] bcast_S_S4x1 (constant S_ .f32 0xFF800000#32) : (Proc.devRef .tc main_while0b_v88 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (cmpf .ogt ((Host.topK S4x1 1 (FloatOps.cmpfTotal .gt) (res_main_while0b_v87 V0) sliceFits_S4x120_S4x1).1) (broadcastInDim S4x1 ![] bcast_S_S4x1 (constant S_ .f32 0xFF800000#32)) : (Proc.devRef .tc main_while0b_v89 : DevRef τ sig).ty.Contents (Elt F)) = Cert.ReferenceIdeal.Step.b10 j s := by
  unfold Cert.ReferenceIdeal.Step.b10
  rw [← al_6 h, ← al_9 h]
  try rfl
set_option maxRecDepth 8192 in
theorem al_11 (h : Holds V0 s j) : (constantI S_ 32 0#32 : (Proc.devRef .tc main_while0b_call2_c : DevRef τ sig).ty.Contents (Elt F)) = Cert.ReferenceIdeal.Step.b11 j s := by
  unfold Cert.ReferenceIdeal.Step.b11
  rfl
set_option maxRecDepth 8192 in
theorem al_12 (h : Holds V0 s j) : (broadcastInDim S4x1 ![] bcast_S_S4x1 (constantI S_ 32 0#32) : (Proc.devRef .tc main_while0b_call2_v0 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (cmpi .slt (res_main_while0b_indices_21 V0) (broadcastInDim S4x1 ![] bcast_S_S4x1 (constantI S_ 32 0#32)) : (Proc.devRef .tc main_while0b_call2_v1 : DevRef τ sig).ty.Contents (Elt F)) = Cert.ReferenceIdeal.Step.b13 j s := by
  unfold Cert.ReferenceIdeal.Step.b13
  rw [← al_7 h, ← al_12 h]
  try rfl
set_option maxRecDepth 8192 in
theorem al_14 (h : Holds V0 s j) : (constantI S_ 32 120#32 : (Proc.devRef .tc main_while0b_call2_c_0 : DevRef τ sig).ty.Contents (Elt F)) = Cert.ReferenceIdeal.Step.b14 j s := by
  unfold Cert.ReferenceIdeal.Step.b14
  rfl
set_option maxRecDepth 8192 in
theorem al_15 (h : Holds V0 s j) : (broadcastInDim S4x1 ![] bcast_S_S4x1 (constantI S_ 32 120#32) : (Proc.devRef .tc main_while0b_call2_v2 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (addi (res_main_while0b_indices_21 V0) (broadcastInDim S4x1 ![] bcast_S_S4x1 (constantI S_ 32 120#32)) : (Proc.devRef .tc main_while0b_call2_v3 : DevRef τ sig).ty.Contents (Elt F)) = Cert.ReferenceIdeal.Step.b16 j s := by
  unfold Cert.ReferenceIdeal.Step.b16
  rw [← al_7 h, ← al_15 h]
  try rfl
set_option maxRecDepth 8192 in
theorem al_17 (h : Holds V0 s j) : (select (cmpi .slt (res_main_while0b_indices_21 V0) (broadcastInDim S4x1 ![] bcast_S_S4x1 (constantI S_ 32 0#32))) (addi (res_main_while0b_indices_21 V0) (broadcastInDim S4x1 ![] bcast_S_S4x1 (constantI S_ 32 120#32))) (res_main_while0b_indices_21 V0) : (Proc.devRef .tc main_while0b_call2_v4 : DevRef τ sig).ty.Contents (Elt F)) = Cert.ReferenceIdeal.Step.b17 j s := by
  unfold Cert.ReferenceIdeal.Step.b17
  rw [← al_13 h, ← al_16 h, ← al_7 h]
  try rfl
set_option maxRecDepth 8192 in
theorem al_18 (h : Holds V0 s j) : (shapeCast S4x1x1 (select (cmpi .slt (res_main_while0b_indices_21 V0) (broadcastInDim S4x1 ![] bcast_S_S4x1 (constantI S_ 32 0#32))) (addi (res_main_while0b_indices_21 V0) (broadcastInDim S4x1 ![] bcast_S_S4x1 (constantI S_ 32 120#32))) (res_main_while0b_indices_21 V0)) shapeCasts_S4x1_S4x1x1 : (Proc.devRef .tc main_while0b_call2_v5 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (Host.gather gather_S4x120_S4x1x1_S4x1_n_1_0_0_1_2_11 (V0 (Proc.devRef .tc main_v85_0)) (shapeCast S4x1x1 (select (cmpi .slt (res_main_while0b_indices_21 V0) (broadcastInDim S4x1 ![] bcast_S_S4x1 (constantI S_ 32 0#32))) (addi (res_main_while0b_indices_21 V0) (broadcastInDim S4x1 ![] bcast_S_S4x1 (constantI S_ 32 120#32))) (res_main_while0b_indices_21 V0)) shapeCasts_S4x1_S4x1x1) : (Proc.devRef .tc main_while0b_v90 : DevRef τ sig).ty.Contents (Elt F)) = Cert.ReferenceIdeal.Step.b19 j s := by
  unfold Cert.ReferenceIdeal.Step.b19
  rw [← al_18 h, h.f_0]
  try rfl
set_option maxRecDepth 8192 in
theorem al_20 (h : Holds V0 s j) : (res_main_while0b_v91 V0 : (Proc.devRef .tc main_while0b_v91 : DevRef τ sig).ty.Contents (Elt F)) = Cert.ReferenceIdeal.Step.b20 j s := by
  unfold res_main_while0b_v91 Cert.ReferenceIdeal.Step.b20
  rw [← al_7 h]
  try rfl
set_option maxRecDepth 8192 in
theorem al_21 (h : Holds V0 s j) : (constantI S_ 32 0#32 : (Proc.devRef .tc main_while0b_call3_c : DevRef τ sig).ty.Contents (Elt F)) = Cert.ReferenceIdeal.Step.b21 j s := by
  unfold Cert.ReferenceIdeal.Step.b21
  rfl
set_option maxRecDepth 8192 in
theorem al_22 (h : Holds V0 s j) : (broadcastInDim S4x1x1 ![] bcast_S_S4x1x1 (constantI S_ 32 0#32) : (Proc.devRef .tc main_while0b_call3_v0 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (cmpi .slt (res_main_while0b_v91 V0) (broadcastInDim S4x1x1 ![] bcast_S_S4x1x1 (constantI S_ 32 0#32)) : (Proc.devRef .tc main_while0b_call3_v1 : DevRef τ sig).ty.Contents (Elt F)) = Cert.ReferenceIdeal.Step.b23 j s := by
  unfold Cert.ReferenceIdeal.Step.b23
  rw [← al_20 h, ← al_22 h]
  try rfl
set_option maxRecDepth 8192 in
theorem al_24 (h : Holds V0 s j) : (constantI S_ 32 120#32 : (Proc.devRef .tc main_while0b_call3_c_0 : DevRef τ sig).ty.Contents (Elt F)) = Cert.ReferenceIdeal.Step.b24 j s := by
  unfold Cert.ReferenceIdeal.Step.b24
  rfl
set_option maxRecDepth 8192 in
theorem al_25 (h : Holds V0 s j) : (broadcastInDim S4x1x1 ![] bcast_S_S4x1x1 (constantI S_ 32 120#32) : (Proc.devRef .tc main_while0b_call3_v2 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (addi (res_main_while0b_v91 V0) (broadcastInDim S4x1x1 ![] bcast_S_S4x1x1 (constantI S_ 32 120#32)) : (Proc.devRef .tc main_while0b_call3_v3 : DevRef τ sig).ty.Contents (Elt F)) = Cert.ReferenceIdeal.Step.b26 j s := by
  unfold Cert.ReferenceIdeal.Step.b26
  rw [← al_20 h, ← al_25 h]
  try rfl
set_option maxRecDepth 8192 in
theorem al_27 (h : Holds V0 s j) : (select (cmpi .slt (res_main_while0b_v91 V0) (broadcastInDim S4x1x1 ![] bcast_S_S4x1x1 (constantI S_ 32 0#32))) (addi (res_main_while0b_v91 V0) (broadcastInDim S4x1x1 ![] bcast_S_S4x1x1 (constantI S_ 32 120#32))) (res_main_while0b_v91 V0) : (Proc.devRef .tc main_while0b_call3_v4 : DevRef τ sig).ty.Contents (Elt F)) = Cert.ReferenceIdeal.Step.b27 j s := by
  unfold Cert.ReferenceIdeal.Step.b27
  rw [← al_23 h, ← al_26 h, ← al_20 h]
  try rfl
set_option maxRecDepth 8192 in
theorem al_28 (h : Holds V0 s j) : (res_main_while0b_v92 V0 : (Proc.devRef .tc main_while0b_v92 : DevRef τ sig).ty.Contents (Elt F)) = Cert.ReferenceIdeal.Step.b28 j s := by
  unfold res_main_while0b_v92 Cert.ReferenceIdeal.Step.b28
  rw [← al_27 h, h.f_1]
  try rfl
set_option maxRecDepth 8192 in
theorem al_29 (h : Holds V0 s j) : (constant S_ .f32 0x3F800000#32 : (Proc.devRef .tc main_while0b_cst_23 : DevRef τ sig).ty.Contents (Elt F)) = Cert.ReferenceIdeal.Step.b29 j s := by
  unfold Cert.ReferenceIdeal.Step.b29
  rfl
set_option maxRecDepth 8192 in
theorem al_30 (h : Holds V0 s j) : (broadcastInDim S4x1 ![] bcast_S_S4x1 (constant S_ .f32 0x3F800000#32) : (Proc.devRef .tc main_while0b_v93 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (shapeCast S4x6 (res_main_while0b_v92 V0) shapeCasts_S4x1x6_S4x6 : (Proc.devRef .tc main_while0b_v94 : DevRef τ sig).ty.Contents (Elt F)) = Cert.ReferenceIdeal.Step.b31 j s := by
  unfold Cert.ReferenceIdeal.Step.b31
  rw [← al_28 h]
  try rfl
set_option maxRecDepth 8192 in
theorem al_32 (h : Holds V0 s j) : ((concatenate S4x8 1 [⟨S4x1, ((broadcastInDim S4x1 ![] bcast_S_S4x1 (constant S_ .f32 0x3F800000#32)) : (⟨S4x1, .f32⟩ : BufTy).Contents (Elt F))⟩, ⟨S4x1, ((Host.gather gather_S4x120_S4x1x1_S4x1_n_1_0_0_1_2_11 (V0 (Proc.devRef .tc main_v85_0)) (shapeCast S4x1x1 (select (cmpi .slt (res_main_while0b_indices_21 V0) (broadcastInDim S4x1 ![] bcast_S_S4x1 (constantI S_ 32 0#32))) (addi (res_main_while0b_indices_21 V0) (broadcastInDim S4x1 ![] bcast_S_S4x1 (constantI S_ 32 120#32))) (res_main_while0b_indices_21 V0)) shapeCasts_S4x1_S4x1x1)) : (⟨S4x1, .f32⟩ : BufTy).Contents (Elt F))⟩, ⟨S4x6, ((shapeCast S4x6 (res_main_while0b_v92 V0) shapeCasts_S4x1x6_S4x6) : (⟨S4x6, .f32⟩ : BufTy).Contents (Elt F))⟩] concatenates_S4x1_S4x1_S4x6_S4x8_d1 : (⟨S4x8, .f32⟩ : BufTy).Contents (Elt F)) : (Proc.devRef .tc main_while0b_v95 : DevRef τ sig).ty.Contents (Elt F)) = Cert.ReferenceIdeal.Step.b32 j s := by
  unfold Cert.ReferenceIdeal.Step.b32
  rw [← al_30 h, ← al_19 h, ← al_31 h]
  try rfl
set_option maxRecDepth 8192 in
theorem al_33 (h : Holds V0 s j) : (iotaInDim S120 32 0 : (Proc.devRef .tc main_while0b_v96 : DevRef τ sig).ty.Contents (Elt F)) = Cert.ReferenceIdeal.Step.b33 j s := by
  unfold Cert.ReferenceIdeal.Step.b33
  rfl
set_option maxRecDepth 8192 in
theorem al_34 (h : Holds V0 s j) : (id (V0 (Proc.devRef .tc main_v85_3)) : (Proc.devRef .tc main_while0b_v97 : DevRef τ sig).ty.Contents (Elt F)) = Cert.ReferenceIdeal.Step.b34 j s := by
  unfold Cert.ReferenceIdeal.Step.b34
  rw [h.n_3]
  try rfl
set_option maxRecDepth 8192 in
theorem al_35 (h : Holds V0 s j) : (broadcastInDim S120 ![] bcast_S_S120 (id (V0 (Proc.devRef .tc main_v85_3))) : (Proc.devRef .tc main_while0b_v98 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (cmpi .eq (iotaInDim S120 32 0) (broadcastInDim S120 ![] bcast_S_S120 (id (V0 (Proc.devRef .tc main_v85_3)))) : (Proc.devRef .tc main_while0b_v99 : DevRef τ sig).ty.Contents (Elt F)) = Cert.ReferenceIdeal.Step.b36 j s := by
  unfold Cert.ReferenceIdeal.Step.b36
  rw [← al_33 h, ← al_35 h]
  try rfl
set_option maxRecDepth 8192 in
theorem al_37 (h : Holds V0 s j) : (broadcastInDim S1x120x1 ![1] bcast_S120_S1x120x1_1 (cmpi .eq (iotaInDim S120 32 0) (broadcastInDim S120 ![] bcast_S_S120 (id (V0 (Proc.devRef .tc main_v85_3))))) : (Proc.devRef .tc main_while0b_v100 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (broadcastInDim S4x1x1 ![0, 1] bcast_S4x1_S4x1x1_0_1 (cmpf .ogt ((Host.topK S4x1 1 (FloatOps.cmpfTotal .gt) (res_main_while0b_v87 V0) sliceFits_S4x120_S4x1).1) (broadcastInDim S4x1 ![] bcast_S_S4x1 (constant S_ .f32 0xFF800000#32))) : (Proc.devRef .tc main_while0b_v101 : DevRef τ sig).ty.Contents (Elt F)) = Cert.ReferenceIdeal.Step.b38 j s := by
  unfold Cert.ReferenceIdeal.Step.b38
  rw [← al_10 h]
  try rfl
set_option maxRecDepth 8192 in
theorem al_39 (h : Holds V0 s j) : (broadcastInDim S4x120x1 ![0, 1, 2] bcast_S1x120x1_S4x120x1_0_1_2 (broadcastInDim S1x120x1 ![1] bcast_S120_S1x120x1_1 (cmpi .eq (iotaInDim S120 32 0) (broadcastInDim S120 ![] bcast_S_S120 (id (V0 (Proc.devRef .tc main_v85_3)))))) : (Proc.devRef .tc main_while0b_v102 : DevRef τ sig).ty.Contents (Elt F)) = Cert.ReferenceIdeal.Step.b39 j s := by
  unfold Cert.ReferenceIdeal.Step.b39
  rw [← al_37 h]
  try rfl
set_option maxRecDepth 8192 in
theorem al_40 (h : Holds V0 s j) : (broadcastInDim S4x120x1 ![0, 1, 2] bcast_S4x1x1_S4x120x1_0_1_2 (broadcastInDim S4x1x1 ![0, 1] bcast_S4x1_S4x1x1_0_1 (cmpf .ogt ((Host.topK S4x1 1 (FloatOps.cmpfTotal .gt) (res_main_while0b_v87 V0) sliceFits_S4x120_S4x1).1) (broadcastInDim S4x1 ![] bcast_S_S4x1 (constant S_ .f32 0xFF800000#32)))) : (Proc.devRef .tc main_while0b_v103 : DevRef τ sig).ty.Contents (Elt F)) = Cert.ReferenceIdeal.Step.b40 j s := by
  unfold Cert.ReferenceIdeal.Step.b40
  rw [← al_38 h]
  try rfl
set_option maxRecDepth 8192 in
theorem al_41 (h : Holds V0 s j) : (andi (broadcastInDim S4x120x1 ![0, 1, 2] bcast_S1x120x1_S4x120x1_0_1_2 (broadcastInDim S1x120x1 ![1] bcast_S120_S1x120x1_1 (cmpi .eq (iotaInDim S120 32 0) (broadcastInDim S120 ![] bcast_S_S120 (id (V0 (Proc.devRef .tc main_v85_3))))))) (broadcastInDim S4x120x1 ![0, 1, 2] bcast_S4x1x1_S4x120x1_0_1_2 (broadcastInDim S4x1x1 ![0, 1] bcast_S4x1_S4x1x1_0_1 (cmpf .ogt ((Host.topK S4x1 1 (FloatOps.cmpfTotal .gt) (res_main_while0b_v87 V0) sliceFits_S4x120_S4x1).1) (broadcastInDim S4x1 ![] bcast_S_S4x1 (constant S_ .f32 0xFF800000#32))))) : (Proc.devRef .tc main_while0b_v104 : DevRef τ sig).ty.Contents (Elt F)) = Cert.ReferenceIdeal.Step.b41 j s := by
  unfold Cert.ReferenceIdeal.Step.b41
  rw [← al_39 h, ← al_40 h]
  try rfl
set_option maxRecDepth 8192 in
theorem al_42 (h : Holds V0 s j) : (broadcastInDim S4x1x8 ![0, 2] bcast_S4x8_S4x1x8_0_2 ((concatenate S4x8 1 [⟨S4x1, ((broadcastInDim S4x1 ![] bcast_S_S4x1 (constant S_ .f32 0x3F800000#32)) : (⟨S4x1, .f32⟩ : BufTy).Contents (Elt F))⟩, ⟨S4x1, ((Host.gather gather_S4x120_S4x1x1_S4x1_n_1_0_0_1_2_11 (V0 (Proc.devRef .tc main_v85_0)) (shapeCast S4x1x1 (select (cmpi .slt (res_main_while0b_indices_21 V0) (broadcastInDim S4x1 ![] bcast_S_S4x1 (constantI S_ 32 0#32))) (addi (res_main_while0b_indices_21 V0) (broadcastInDim S4x1 ![] bcast_S_S4x1 (constantI S_ 32 120#32))) (res_main_while0b_indices_21 V0)) shapeCasts_S4x1_S4x1x1)) : (⟨S4x1, .f32⟩ : BufTy).Contents (Elt F))⟩, ⟨S4x6, ((shapeCast S4x6 (res_main_while0b_v92 V0) shapeCasts_S4x1x6_S4x6) : (⟨S4x6, .f32⟩ : BufTy).Contents (Elt F))⟩] concatenates_S4x1_S4x1_S4x6_S4x8_d1 : (⟨S4x8, .f32⟩ : BufTy).Contents (Elt F))) : (Proc.devRef .tc main_while0b_v105 : DevRef τ sig).ty.Contents (Elt F)) = Cert.ReferenceIdeal.Step.b42 j s := by
  unfold Cert.ReferenceIdeal.Step.b42
  rw [← al_32 h]
  try rfl
set_option maxRecDepth 8192 in
theorem al_43 (h : Holds V0 s j) : (broadcastInDim S4x120x8 ![0, 1, 2] bcast_S4x120x1_S4x120x8_0_1_2 (andi (broadcastInDim S4x120x1 ![0, 1, 2] bcast_S1x120x1_S4x120x1_0_1_2 (broadcastInDim S1x120x1 ![1] bcast_S120_S1x120x1_1 (cmpi .eq (iotaInDim S120 32 0) (broadcastInDim S120 ![] bcast_S_S120 (id (V0 (Proc.devRef .tc main_v85_3))))))) (broadcastInDim S4x120x1 ![0, 1, 2] bcast_S4x1x1_S4x120x1_0_1_2 (broadcastInDim S4x1x1 ![0, 1] bcast_S4x1_S4x1x1_0_1 (cmpf .ogt ((Host.topK S4x1 1 (FloatOps.cmpfTotal .gt) (res_main_while0b_v87 V0) sliceFits_S4x120_S4x1).1) (broadcastInDim S4x1 ![] bcast_S_S4x1 (constant S_ .f32 0xFF800000#32)))))) : (Proc.devRef .tc main_while0b_call4_v0 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (broadcastInDim S4x120x8 ![0, 1, 2] bcast_S4x1x8_S4x120x8_0_1_2 (broadcastInDim S4x1x8 ![0, 2] bcast_S4x8_S4x1x8_0_2 ((concatenate S4x8 1 [⟨S4x1, ((broadcastInDim S4x1 ![] bcast_S_S4x1 (constant S_ .f32 0x3F800000#32)) : (⟨S4x1, .f32⟩ : BufTy).Contents (Elt F))⟩, ⟨S4x1, ((Host.gather gather_S4x120_S4x1x1_S4x1_n_1_0_0_1_2_11 (V0 (Proc.devRef .tc main_v85_0)) (shapeCast S4x1x1 (select (cmpi .slt (res_main_while0b_indices_21 V0) (broadcastInDim S4x1 ![] bcast_S_S4x1 (constantI S_ 32 0#32))) (addi (res_main_while0b_indices_21 V0) (broadcastInDim S4x1 ![] bcast_S_S4x1 (constantI S_ 32 120#32))) (res_main_while0b_indices_21 V0)) shapeCasts_S4x1_S4x1x1)) : (⟨S4x1, .f32⟩ : BufTy).Contents (Elt F))⟩, ⟨S4x6, ((shapeCast S4x6 (res_main_while0b_v92 V0) shapeCasts_S4x1x6_S4x6) : (⟨S4x6, .f32⟩ : BufTy).Contents (Elt F))⟩] concatenates_S4x1_S4x1_S4x6_S4x8_d1 : (⟨S4x8, .f32⟩ : BufTy).Contents (Elt F)))) : (Proc.devRef .tc main_while0b_call4_v1 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (select (broadcastInDim S4x120x8 ![0, 1, 2] bcast_S4x120x1_S4x120x8_0_1_2 (andi (broadcastInDim S4x120x1 ![0, 1, 2] bcast_S1x120x1_S4x120x1_0_1_2 (broadcastInDim S1x120x1 ![1] bcast_S120_S1x120x1_1 (cmpi .eq (iotaInDim S120 32 0) (broadcastInDim S120 ![] bcast_S_S120 (id (V0 (Proc.devRef .tc main_v85_3))))))) (broadcastInDim S4x120x1 ![0, 1, 2] bcast_S4x1x1_S4x120x1_0_1_2 (broadcastInDim S4x1x1 ![0, 1] bcast_S4x1_S4x1x1_0_1 (cmpf .ogt ((Host.topK S4x1 1 (FloatOps.cmpfTotal .gt) (res_main_while0b_v87 V0) sliceFits_S4x120_S4x1).1) (broadcastInDim S4x1 ![] bcast_S_S4x1 (constant S_ .f32 0xFF800000#32))))))) (broadcastInDim S4x120x8 ![0, 1, 2] bcast_S4x1x8_S4x120x8_0_1_2 (broadcastInDim S4x1x8 ![0, 2] bcast_S4x8_S4x1x8_0_2 ((concatenate S4x8 1 [⟨S4x1, ((broadcastInDim S4x1 ![] bcast_S_S4x1 (constant S_ .f32 0x3F800000#32)) : (⟨S4x1, .f32⟩ : BufTy).Contents (Elt F))⟩, ⟨S4x1, ((Host.gather gather_S4x120_S4x1x1_S4x1_n_1_0_0_1_2_11 (V0 (Proc.devRef .tc main_v85_0)) (shapeCast S4x1x1 (select (cmpi .slt (res_main_while0b_indices_21 V0) (broadcastInDim S4x1 ![] bcast_S_S4x1 (constantI S_ 32 0#32))) (addi (res_main_while0b_indices_21 V0) (broadcastInDim S4x1 ![] bcast_S_S4x1 (constantI S_ 32 120#32))) (res_main_while0b_indices_21 V0)) shapeCasts_S4x1_S4x1x1)) : (⟨S4x1, .f32⟩ : BufTy).Contents (Elt F))⟩, ⟨S4x6, ((shapeCast S4x6 (res_main_while0b_v92 V0) shapeCasts_S4x1x6_S4x6) : (⟨S4x6, .f32⟩ : BufTy).Contents (Elt F))⟩] concatenates_S4x1_S4x1_S4x6_S4x8_d1 : (⟨S4x8, .f32⟩ : BufTy).Contents (Elt F))))) (V0 (Proc.devRef .tc main_v85_4)) : (Proc.devRef .tc main_while0b_v106 : DevRef τ sig).ty.Contents (Elt F)) = Cert.ReferenceIdeal.Step.b45 j s := by
  unfold Cert.ReferenceIdeal.Step.b45
  rw [← al_43 h, ← al_44 h, h.f_4]
  try rfl
set_option maxRecDepth 8192 in
theorem al_46 (h : Holds V0 s j) : (res_main_while0b_v107 V0 : (Proc.devRef .tc main_while0b_v107 : DevRef τ sig).ty.Contents (Elt F)) = Cert.ReferenceIdeal.Step.b46 j s := by
  unfold res_main_while0b_v107 Cert.ReferenceIdeal.Step.b46
  rw [← al_28 h]
  try rfl
set_option maxRecDepth 8192 in
theorem al_47 (h : Holds V0 s j) : (res_main_while0b_v108 V0 : (Proc.devRef .tc main_while0b_v108 : DevRef τ sig).ty.Contents (Elt F)) = Cert.ReferenceIdeal.Step.b47 j s := by
  unfold res_main_while0b_v108 Cert.ReferenceIdeal.Step.b47
  rw [← al_28 h]
  try rfl
set_option maxRecDepth 8192 in
theorem al_48 (h : Holds V0 s j) : (constant S_ .f32 0x40000000#32 : (Proc.devRef .tc main_while0b_cst_24 : DevRef τ sig).ty.Contents (Elt F)) = Cert.ReferenceIdeal.Step.b48 j s := by
  unfold Cert.ReferenceIdeal.Step.b48
  rfl
set_option maxRecDepth 8192 in
theorem al_49 (h : Holds V0 s j) : (broadcastInDim S4x1x3 ![] bcast_S_S4x1x3 (constant S_ .f32 0x40000000#32) : (Proc.devRef .tc main_while0b_v109 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (Host.divf (res_main_while0b_v108 V0) (broadcastInDim S4x1x3 ![] bcast_S_S4x1x3 (constant S_ .f32 0x40000000#32)) : (Proc.devRef .tc main_while0b_v110 : DevRef τ sig).ty.Contents (Elt F)) = Cert.ReferenceIdeal.Step.b50 j s := by
  unfold Cert.ReferenceIdeal.Step.b50
  rw [← al_47 h, ← al_49 h]
  try rfl
set_option maxRecDepth 8192 in
theorem al_51 (h : Holds V0 s j) : (subf (res_main_while0b_v107 V0) (Host.divf (res_main_while0b_v108 V0) (broadcastInDim S4x1x3 ![] bcast_S_S4x1x3 (constant S_ .f32 0x40000000#32))) : (Proc.devRef .tc main_while0b_v111 : DevRef τ sig).ty.Contents (Elt F)) = Cert.ReferenceIdeal.Step.b51 j s := by
  unfold Cert.ReferenceIdeal.Step.b51
  rw [← al_46 h, ← al_50 h]
  try rfl
set_option maxRecDepth 8192 in
theorem al_52 (h : Holds V0 s j) : (constant S_ .f32 0x40000000#32 : (Proc.devRef .tc main_while0b_cst_25 : DevRef τ sig).ty.Contents (Elt F)) = Cert.ReferenceIdeal.Step.b52 j s := by
  unfold Cert.ReferenceIdeal.Step.b52
  rfl
set_option maxRecDepth 8192 in
theorem al_53 (h : Holds V0 s j) : (broadcastInDim S4x1x3 ![] bcast_S_S4x1x3 (constant S_ .f32 0x40000000#32) : (Proc.devRef .tc main_while0b_v112 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (Host.divf (res_main_while0b_v108 V0) (broadcastInDim S4x1x3 ![] bcast_S_S4x1x3 (constant S_ .f32 0x40000000#32)) : (Proc.devRef .tc main_while0b_v113 : DevRef τ sig).ty.Contents (Elt F)) = Cert.ReferenceIdeal.Step.b54 j s := by
  unfold Cert.ReferenceIdeal.Step.b54
  rw [← al_47 h, ← al_53 h]
  try rfl
set_option maxRecDepth 8192 in
theorem al_55 (h : Holds V0 s j) : (addf (res_main_while0b_v107 V0) (Host.divf (res_main_while0b_v108 V0) (broadcastInDim S4x1x3 ![] bcast_S_S4x1x3 (constant S_ .f32 0x40000000#32))) : (Proc.devRef .tc main_while0b_v114 : DevRef τ sig).ty.Contents (Elt F)) = Cert.ReferenceIdeal.Step.b55 j s := by
  unfold Cert.ReferenceIdeal.Step.b55
  rw [← al_46 h, ← al_54 h]
  try rfl
set_option maxRecDepth 8192 in
theorem al_56 (h : Holds V0 s j) : (extractStridedSlice S4x120x3 ![0, 0, 0] (V0 (Proc.devRef .tc main_v85_1)) slices_S4x120x6_S4x120x3_0_0_0 : (Proc.devRef .tc main_while0b_v115 : DevRef τ sig).ty.Contents (Elt F)) = Cert.ReferenceIdeal.Step.b56 j s := by
  unfold Cert.ReferenceIdeal.Step.b56
  rw [h.f_1]
  try rfl
set_option maxRecDepth 8192 in
theorem al_57 (h : Holds V0 s j) : (extractStridedSlice S4x120x3 ![0, 0, 3] (V0 (Proc.devRef .tc main_v85_1)) slices_S4x120x6_S4x120x3_0_0_3 : (Proc.devRef .tc main_while0b_v116 : DevRef τ sig).ty.Contents (Elt F)) = Cert.ReferenceIdeal.Step.b57 j s := by
  unfold Cert.ReferenceIdeal.Step.b57
  rw [h.f_1]
  try rfl
set_option maxRecDepth 8192 in
theorem al_58 (h : Holds V0 s j) : (constant S_ .f32 0x40000000#32 : (Proc.devRef .tc main_while0b_cst_26 : DevRef τ sig).ty.Contents (Elt F)) = Cert.ReferenceIdeal.Step.b58 j s := by
  unfold Cert.ReferenceIdeal.Step.b58
  rfl
set_option maxRecDepth 8192 in
theorem al_59 (h : Holds V0 s j) : (broadcastInDim S4x120x3 ![] bcast_S_S4x120x3 (constant S_ .f32 0x40000000#32) : (Proc.devRef .tc main_while0b_v117 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (Host.divf (extractStridedSlice S4x120x3 ![0, 0, 3] (V0 (Proc.devRef .tc main_v85_1)) slices_S4x120x6_S4x120x3_0_0_3) (broadcastInDim S4x120x3 ![] bcast_S_S4x120x3 (constant S_ .f32 0x40000000#32)) : (Proc.devRef .tc main_while0b_v118 : DevRef τ sig).ty.Contents (Elt F)) = Cert.ReferenceIdeal.Step.b60 j s := by
  unfold Cert.ReferenceIdeal.Step.b60
  rw [← al_57 h, ← al_59 h]
  try rfl
set_option maxRecDepth 8192 in
theorem al_61 (h : Holds V0 s j) : (subf (extractStridedSlice S4x120x3 ![0, 0, 0] (V0 (Proc.devRef .tc main_v85_1)) slices_S4x120x6_S4x120x3_0_0_0) (Host.divf (extractStridedSlice S4x120x3 ![0, 0, 3] (V0 (Proc.devRef .tc main_v85_1)) slices_S4x120x6_S4x120x3_0_0_3) (broadcastInDim S4x120x3 ![] bcast_S_S4x120x3 (constant S_ .f32 0x40000000#32))) : (Proc.devRef .tc main_while0b_v119 : DevRef τ sig).ty.Contents (Elt F)) = Cert.ReferenceIdeal.Step.b61 j s := by
  unfold Cert.ReferenceIdeal.Step.b61
  rw [← al_56 h, ← al_60 h]
  try rfl
set_option maxRecDepth 8192 in
theorem al_62 (h : Holds V0 s j) : (extractStridedSlice S4x120x3 ![0, 0, 0] (V0 (Proc.devRef .tc main_v85_1)) slices_S4x120x6_S4x120x3_0_0_0 : (Proc.devRef .tc main_while0b_v120 : DevRef τ sig).ty.Contents (Elt F)) = Cert.ReferenceIdeal.Step.b62 j s := by
  unfold Cert.ReferenceIdeal.Step.b62
  rw [h.f_1]
  try rfl
set_option maxRecDepth 8192 in
theorem al_63 (h : Holds V0 s j) : (extractStridedSlice S4x120x3 ![0, 0, 3] (V0 (Proc.devRef .tc main_v85_1)) slices_S4x120x6_S4x120x3_0_0_3 : (Proc.devRef .tc main_while0b_v121 : DevRef τ sig).ty.Contents (Elt F)) = Cert.ReferenceIdeal.Step.b63 j s := by
  unfold Cert.ReferenceIdeal.Step.b63
  rw [h.f_1]
  try rfl
set_option maxRecDepth 8192 in
theorem al_64 (h : Holds V0 s j) : (constant S_ .f32 0x40000000#32 : (Proc.devRef .tc main_while0b_cst_27 : DevRef τ sig).ty.Contents (Elt F)) = Cert.ReferenceIdeal.Step.b64 j s := by
  unfold Cert.ReferenceIdeal.Step.b64
  rfl
set_option maxRecDepth 8192 in
theorem al_65 (h : Holds V0 s j) : (broadcastInDim S4x120x3 ![] bcast_S_S4x120x3 (constant S_ .f32 0x40000000#32) : (Proc.devRef .tc main_while0b_v122 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (Host.divf (extractStridedSlice S4x120x3 ![0, 0, 3] (V0 (Proc.devRef .tc main_v85_1)) slices_S4x120x6_S4x120x3_0_0_3) (broadcastInDim S4x120x3 ![] bcast_S_S4x120x3 (constant S_ .f32 0x40000000#32)) : (Proc.devRef .tc main_while0b_v123 : DevRef τ sig).ty.Contents (Elt F)) = Cert.ReferenceIdeal.Step.b66 j s := by
  unfold Cert.ReferenceIdeal.Step.b66
  rw [← al_63 h, ← al_65 h]
  try rfl
set_option maxRecDepth 8192 in
theorem al_67 (h : Holds V0 s j) : (addf (extractStridedSlice S4x120x3 ![0, 0, 0] (V0 (Proc.devRef .tc main_v85_1)) slices_S4x120x6_S4x120x3_0_0_0) (Host.divf (extractStridedSlice S4x120x3 ![0, 0, 3] (V0 (Proc.devRef .tc main_v85_1)) slices_S4x120x6_S4x120x3_0_0_3) (broadcastInDim S4x120x3 ![] bcast_S_S4x120x3 (constant S_ .f32 0x40000000#32))) : (Proc.devRef .tc main_while0b_v124 : DevRef τ sig).ty.Contents (Elt F)) = Cert.ReferenceIdeal.Step.b67 j s := by
  unfold Cert.ReferenceIdeal.Step.b67
  rw [← al_62 h, ← al_66 h]
  try rfl
set_option maxRecDepth 8192 in
theorem al_68 (h : Holds V0 s j) : (broadcastInDim S4x120x3 ![0, 1, 2] bcast_S4x1x3_S4x120x3_0_1_2 (addf (res_main_while0b_v107 V0) (Host.divf (res_main_while0b_v108 V0) (broadcastInDim S4x1x3 ![] bcast_S_S4x1x3 (constant S_ .f32 0x40000000#32)))) : (Proc.devRef .tc main_while0b_v125 : DevRef τ sig).ty.Contents (Elt F)) = Cert.ReferenceIdeal.Step.b68 j s := by
  unfold Cert.ReferenceIdeal.Step.b68
  rw [← al_55 h]
  try rfl
set_option maxRecDepth 8192 in
theorem al_69 (h : Holds V0 s j) : (minimumf (broadcastInDim S4x120x3 ![0, 1, 2] bcast_S4x1x3_S4x120x3_0_1_2 (addf (res_main_while0b_v107 V0) (Host.divf (res_main_while0b_v108 V0) (broadcastInDim S4x1x3 ![] bcast_S_S4x1x3 (constant S_ .f32 0x40000000#32))))) (addf (extractStridedSlice S4x120x3 ![0, 0, 0] (V0 (Proc.devRef .tc main_v85_1)) slices_S4x120x6_S4x120x3_0_0_0) (Host.divf (extractStridedSlice S4x120x3 ![0, 0, 3] (V0 (Proc.devRef .tc main_v85_1)) slices_S4x120x6_S4x120x3_0_0_3) (broadcastInDim S4x120x3 ![] bcast_S_S4x120x3 (constant S_ .f32 0x40000000#32)))) : (Proc.devRef .tc main_while0b_v126 : DevRef τ sig).ty.Contents (Elt F)) = Cert.ReferenceIdeal.Step.b69 j s := by
  unfold Cert.ReferenceIdeal.Step.b69
  rw [← al_68 h, ← al_67 h]
  try rfl
set_option maxRecDepth 8192 in
theorem al_70 (h : Holds V0 s j) : (broadcastInDim S4x120x3 ![0, 1, 2] bcast_S4x1x3_S4x120x3_0_1_2 (subf (res_main_while0b_v107 V0) (Host.divf (res_main_while0b_v108 V0) (broadcastInDim S4x1x3 ![] bcast_S_S4x1x3 (constant S_ .f32 0x40000000#32)))) : (Proc.devRef .tc main_while0b_v127 : DevRef τ sig).ty.Contents (Elt F)) = Cert.ReferenceIdeal.Step.b70 j s := by
  unfold Cert.ReferenceIdeal.Step.b70
  rw [← al_51 h]
  try rfl
set_option maxRecDepth 8192 in
theorem al_71 (h : Holds V0 s j) : (maximumf (broadcastInDim S4x120x3 ![0, 1, 2] bcast_S4x1x3_S4x120x3_0_1_2 (subf (res_main_while0b_v107 V0) (Host.divf (res_main_while0b_v108 V0) (broadcastInDim S4x1x3 ![] bcast_S_S4x1x3 (constant S_ .f32 0x40000000#32))))) (subf (extractStridedSlice S4x120x3 ![0, 0, 0] (V0 (Proc.devRef .tc main_v85_1)) slices_S4x120x6_S4x120x3_0_0_0) (Host.divf (extractStridedSlice S4x120x3 ![0, 0, 3] (V0 (Proc.devRef .tc main_v85_1)) slices_S4x120x6_S4x120x3_0_0_3) (broadcastInDim S4x120x3 ![] bcast_S_S4x120x3 (constant S_ .f32 0x40000000#32)))) : (Proc.devRef .tc main_while0b_v128 : DevRef τ sig).ty.Contents (Elt F)) = Cert.ReferenceIdeal.Step.b71 j s := by
  unfold Cert.ReferenceIdeal.Step.b71
  rw [← al_70 h, ← al_61 h]
  try rfl
set_option maxRecDepth 8192 in
theorem al_72 (h : Holds V0 s j) : (subf (minimumf (broadcastInDim S4x120x3 ![0, 1, 2] bcast_S4x1x3_S4x120x3_0_1_2 (addf (res_main_while0b_v107 V0) (Host.divf (res_main_while0b_v108 V0) (broadcastInDim S4x1x3 ![] bcast_S_S4x1x3 (constant S_ .f32 0x40000000#32))))) (addf (extractStridedSlice S4x120x3 ![0, 0, 0] (V0 (Proc.devRef .tc main_v85_1)) slices_S4x120x6_S4x120x3_0_0_0) (Host.divf (extractStridedSlice S4x120x3 ![0, 0, 3] (V0 (Proc.devRef .tc main_v85_1)) slices_S4x120x6_S4x120x3_0_0_3) (broadcastInDim S4x120x3 ![] bcast_S_S4x120x3 (constant S_ .f32 0x40000000#32))))) (maximumf (broadcastInDim S4x120x3 ![0, 1, 2] bcast_S4x1x3_S4x120x3_0_1_2 (subf (res_main_while0b_v107 V0) (Host.divf (res_main_while0b_v108 V0) (broadcastInDim S4x1x3 ![] bcast_S_S4x1x3 (constant S_ .f32 0x40000000#32))))) (subf (extractStridedSlice S4x120x3 ![0, 0, 0] (V0 (Proc.devRef .tc main_v85_1)) slices_S4x120x6_S4x120x3_0_0_0) (Host.divf (extractStridedSlice S4x120x3 ![0, 0, 3] (V0 (Proc.devRef .tc main_v85_1)) slices_S4x120x6_S4x120x3_0_0_3) (broadcastInDim S4x120x3 ![] bcast_S_S4x120x3 (constant S_ .f32 0x40000000#32))))) : (Proc.devRef .tc main_while0b_v129 : DevRef τ sig).ty.Contents (Elt F)) = Cert.ReferenceIdeal.Step.b72 j s := by
  unfold Cert.ReferenceIdeal.Step.b72
  rw [← al_69 h, ← al_71 h]
  try rfl
set_option maxRecDepth 8192 in
theorem al_73 (h : Holds V0 s j) : (constant S_ .f32 0x00000000#32 : (Proc.devRef .tc main_while0b_cst_28 : DevRef τ sig).ty.Contents (Elt F)) = Cert.ReferenceIdeal.Step.b73 j s := by
  unfold Cert.ReferenceIdeal.Step.b73
  rfl
set_option maxRecDepth 8192 in
theorem al_74 (h : Holds V0 s j) : (broadcastInDim S4x120x3 ![] bcast_S_S4x120x3 (constant S_ .f32 0x00000000#32) : (Proc.devRef .tc main_while0b_v130 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (res_main_while0b_v131 V0 : (Proc.devRef .tc main_while0b_v131 : DevRef τ sig).ty.Contents (Elt F)) = Cert.ReferenceIdeal.Step.b75 j s := by
  unfold res_main_while0b_v131 Cert.ReferenceIdeal.Step.b75
  rw [← al_72 h, ← al_74 h]
  try rfl
set_option maxRecDepth 8192 in
theorem al_76 (h : Holds V0 s j) : (extractStridedSlice S4x120x1 ![0, 0, 0] (res_main_while0b_v131 V0) slices_S4x120x3_S4x120x1_0_0_0 : (Proc.devRef .tc main_while0b_v132 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (shapeCast S4x120 (extractStridedSlice S4x120x1 ![0, 0, 0] (res_main_while0b_v131 V0) slices_S4x120x3_S4x120x1_0_0_0) shapeCasts_S4x120x1_S4x120 : (Proc.devRef .tc main_while0b_v133 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (extractStridedSlice S4x120x1 ![0, 0, 1] (res_main_while0b_v131 V0) slices_S4x120x3_S4x120x1_0_0_1 : (Proc.devRef .tc main_while0b_v134 : DevRef τ sig).ty.Contents (Elt F)) = Cert.ReferenceIdeal.Step.b78 j s := by
  unfold Cert.ReferenceIdeal.Step.b78
  rw [← al_75 h]
  try rfl
set_option maxRecDepth 8192 in
theorem al_79 (h : Holds V0 s j) : (shapeCast S4x120 (extractStridedSlice S4x120x1 ![0, 0, 1] (res_main_while0b_v131 V0) slices_S4x120x3_S4x120x1_0_0_1) shapeCasts_S4x120x1_S4x120 : (Proc.devRef .tc main_while0b_v135 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (mulf (shapeCast S4x120 (extractStridedSlice S4x120x1 ![0, 0, 0] (res_main_while0b_v131 V0) slices_S4x120x3_S4x120x1_0_0_0) shapeCasts_S4x120x1_S4x120) (shapeCast S4x120 (extractStridedSlice S4x120x1 ![0, 0, 1] (res_main_while0b_v131 V0) slices_S4x120x3_S4x120x1_0_0_1) shapeCasts_S4x120x1_S4x120) : (Proc.devRef .tc main_while0b_v136 : DevRef τ sig).ty.Contents (Elt F)) = Cert.ReferenceIdeal.Step.b80 j s := by
  unfold Cert.ReferenceIdeal.Step.b80
  rw [← al_77 h, ← al_79 h]
  try rfl
set_option maxRecDepth 8192 in
theorem al_81 (h : Holds V0 s j) : (extractStridedSlice S4x120x1 ![0, 0, 2] (res_main_while0b_v131 V0) slices_S4x120x3_S4x120x1_0_0_2 : (Proc.devRef .tc main_while0b_v137 : DevRef τ sig).ty.Contents (Elt F)) = Cert.ReferenceIdeal.Step.b81 j s := by
  unfold Cert.ReferenceIdeal.Step.b81
  rw [← al_75 h]
  try rfl
set_option maxRecDepth 8192 in
theorem al_82 (h : Holds V0 s j) : (shapeCast S4x120 (extractStridedSlice S4x120x1 ![0, 0, 2] (res_main_while0b_v131 V0) slices_S4x120x3_S4x120x1_0_0_2) shapeCasts_S4x120x1_S4x120 : (Proc.devRef .tc main_while0b_v138 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (res_main_while0b_v139 V0 : (Proc.devRef .tc main_while0b_v139 : DevRef τ sig).ty.Contents (Elt F)) = Cert.ReferenceIdeal.Step.b83 j s := by
  unfold res_main_while0b_v139 Cert.ReferenceIdeal.Step.b83
  rw [← al_80 h, ← al_82 h]
  try rfl
set_option maxRecDepth 8192 in
theorem al_84 (h : Holds V0 s j) : (extractStridedSlice S4x1x1 ![0, 0, 0] (res_main_while0b_v108 V0) slices_S4x1x3_S4x1x1_0_0_0 : (Proc.devRef .tc main_while0b_v140 : DevRef τ sig).ty.Contents (Elt F)) = Cert.ReferenceIdeal.Step.b84 j s := by
  unfold Cert.ReferenceIdeal.Step.b84
  rw [← al_47 h]
  try rfl
set_option maxRecDepth 8192 in
theorem al_85 (h : Holds V0 s j) : (shapeCast S4x1 (extractStridedSlice S4x1x1 ![0, 0, 0] (res_main_while0b_v108 V0) slices_S4x1x3_S4x1x1_0_0_0) shapeCasts_S4x1x1_S4x1 : (Proc.devRef .tc main_while0b_v141 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (extractStridedSlice S4x1x1 ![0, 0, 1] (res_main_while0b_v108 V0) slices_S4x1x3_S4x1x1_0_0_1 : (Proc.devRef .tc main_while0b_v142 : DevRef τ sig).ty.Contents (Elt F)) = Cert.ReferenceIdeal.Step.b86 j s := by
  unfold Cert.ReferenceIdeal.Step.b86
  rw [← al_47 h]
  try rfl
set_option maxRecDepth 8192 in
theorem al_87 (h : Holds V0 s j) : (shapeCast S4x1 (extractStridedSlice S4x1x1 ![0, 0, 1] (res_main_while0b_v108 V0) slices_S4x1x3_S4x1x1_0_0_1) shapeCasts_S4x1x1_S4x1 : (Proc.devRef .tc main_while0b_v143 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1) : (Proc.devRef .tc main_while0b_v144 : DevRef τ sig).ty.Contents (Elt F)) = Cert.ReferenceIdeal.Step.b88 j s := by
  unfold Cert.ReferenceIdeal.Step.b88
  rw [← al_85 h, ← al_87 h]
  try rfl
set_option maxRecDepth 8192 in
theorem al_89 (h : Holds V0 s j) : (extractStridedSlice S4x1x1 ![0, 0, 2] (res_main_while0b_v108 V0) slices_S4x1x3_S4x1x1_0_0_2 : (Proc.devRef .tc main_while0b_v145 : DevRef τ sig).ty.Contents (Elt F)) = Cert.ReferenceIdeal.Step.b89 j s := by
  unfold Cert.ReferenceIdeal.Step.b89
  rw [← al_47 h]
  try rfl
set_option maxRecDepth 8192 in
theorem al_90 (h : Holds V0 s j) : (shapeCast S4x1 (extractStridedSlice S4x1x1 ![0, 0, 2] (res_main_while0b_v108 V0) slices_S4x1x3_S4x1x1_0_0_2) shapeCasts_S4x1x1_S4x1 : (Proc.devRef .tc main_while0b_v146 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (mulf (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1)) (shapeCast S4x1 (extractStridedSlice S4x1x1 ![0, 0, 2] (res_main_while0b_v108 V0) slices_S4x1x3_S4x1x1_0_0_2) shapeCasts_S4x1x1_S4x1) : (Proc.devRef .tc main_while0b_v147 : DevRef τ sig).ty.Contents (Elt F)) = Cert.ReferenceIdeal.Step.b91 j s := by
  unfold Cert.ReferenceIdeal.Step.b91
  rw [← al_88 h, ← al_90 h]
  try rfl
set_option maxRecDepth 8192 in
theorem al_92 (h : Holds V0 s j) : (res_main_while0b_v148 V0 : (Proc.devRef .tc main_while0b_v148 : DevRef τ sig).ty.Contents (Elt F)) = Cert.ReferenceIdeal.Step.b92 j s := by
  unfold res_main_while0b_v148 Cert.ReferenceIdeal.Step.b92
  rw [h.f_1]
  try rfl
set_option maxRecDepth 8192 in
theorem al_93 (h : Holds V0 s j) : (extractStridedSlice S4x120x1 ![0, 0, 0] (res_main_while0b_v148 V0) slices_S4x120x3_S4x120x1_0_0_0 : (Proc.devRef .tc main_while0b_v149 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (shapeCast S4x120 (extractStridedSlice S4x120x1 ![0, 0, 0] (res_main_while0b_v148 V0) slices_S4x120x3_S4x120x1_0_0_0) shapeCasts_S4x120x1_S4x120 : (Proc.devRef .tc main_while0b_v150 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (extractStridedSlice S4x120x1 ![0, 0, 1] (res_main_while0b_v148 V0) slices_S4x120x3_S4x120x1_0_0_1 : (Proc.devRef .tc main_while0b_v151 : DevRef τ sig).ty.Contents (Elt F)) = Cert.ReferenceIdeal.Step.b95 j s := by
  unfold Cert.ReferenceIdeal.Step.b95
  rw [← al_92 h]
  try rfl
set_option maxRecDepth 8192 in
theorem al_96 (h : Holds V0 s j) : (shapeCast S4x120 (extractStridedSlice S4x120x1 ![0, 0, 1] (res_main_while0b_v148 V0) slices_S4x120x3_S4x120x1_0_0_1) shapeCasts_S4x120x1_S4x120 : (Proc.devRef .tc main_while0b_v152 : DevRef τ sig).ty.Contents (Elt F)) = Cert.ReferenceIdeal.Step.b96 j s := by
  unfold Cert.ReferenceIdeal.Step.b96
  rw [← al_95 h]
  try rfl
set_option maxRecDepth 8192 in
theorem al_97 (h : Holds V0 s j) : (mulf (shapeCast S4x120 (extractStridedSlice S4x120x1 ![0, 0, 0] (res_main_while0b_v148 V0) slices_S4x120x3_S4x120x1_0_0_0) shapeCasts_S4x120x1_S4x120) (shapeCast S4x120 (extractStridedSlice S4x120x1 ![0, 0, 1] (res_main_while0b_v148 V0) slices_S4x120x3_S4x120x1_0_0_1) shapeCasts_S4x120x1_S4x120) : (Proc.devRef .tc main_while0b_v153 : DevRef τ sig).ty.Contents (Elt F)) = Cert.ReferenceIdeal.Step.b97 j s := by
  unfold Cert.ReferenceIdeal.Step.b97
  rw [← al_94 h, ← al_96 h]
  try rfl
set_option maxRecDepth 8192 in
theorem al_98 (h : Holds V0 s j) : (extractStridedSlice S4x120x1 ![0, 0, 2] (res_main_while0b_v148 V0) slices_S4x120x3_S4x120x1_0_0_2 : (Proc.devRef .tc main_while0b_v154 : DevRef τ sig).ty.Contents (Elt F)) = Cert.ReferenceIdeal.Step.b98 j s := by
  unfold Cert.ReferenceIdeal.Step.b98
  rw [← al_92 h]
  try rfl
set_option maxRecDepth 8192 in
theorem al_99 (h : Holds V0 s j) : (shapeCast S4x120 (extractStridedSlice S4x120x1 ![0, 0, 2] (res_main_while0b_v148 V0) slices_S4x120x3_S4x120x1_0_0_2) shapeCasts_S4x120x1_S4x120 : (Proc.devRef .tc main_while0b_v155 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (mulf (mulf (shapeCast S4x120 (extractStridedSlice S4x120x1 ![0, 0, 0] (res_main_while0b_v148 V0) slices_S4x120x3_S4x120x1_0_0_0) shapeCasts_S4x120x1_S4x120) (shapeCast S4x120 (extractStridedSlice S4x120x1 ![0, 0, 1] (res_main_while0b_v148 V0) slices_S4x120x3_S4x120x1_0_0_1) shapeCasts_S4x120x1_S4x120)) (shapeCast S4x120 (extractStridedSlice S4x120x1 ![0, 0, 2] (res_main_while0b_v148 V0) slices_S4x120x3_S4x120x1_0_0_2) shapeCasts_S4x120x1_S4x120) : (Proc.devRef .tc main_while0b_v156 : DevRef τ sig).ty.Contents (Elt F)) = Cert.ReferenceIdeal.Step.b100 j s := by
  unfold Cert.ReferenceIdeal.Step.b100
  rw [← al_97 h, ← al_99 h]
  try rfl
set_option maxRecDepth 8192 in
theorem al_101 (h : Holds V0 s j) : (broadcastInDim S4x120 ![0, 1] bcast_S4x1_S4x120_0_1 (mulf (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1)) (shapeCast S4x1 (extractStridedSlice S4x1x1 ![0, 0, 2] (res_main_while0b_v108 V0) slices_S4x1x3_S4x1x1_0_0_2) shapeCasts_S4x1x1_S4x1)) : (Proc.devRef .tc main_while0b_v157 : DevRef τ sig).ty.Contents (Elt F)) = Cert.ReferenceIdeal.Step.b101 j s := by
  unfold Cert.ReferenceIdeal.Step.b101
  rw [← al_91 h]
  try rfl
set_option maxRecDepth 8192 in
theorem al_102 (h : Holds V0 s j) : (addf (broadcastInDim S4x120 ![0, 1] bcast_S4x1_S4x120_0_1 (mulf (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1)) (shapeCast S4x1 (extractStridedSlice S4x1x1 ![0, 0, 2] (res_main_while0b_v108 V0) slices_S4x1x3_S4x1x1_0_0_2) shapeCasts_S4x1x1_S4x1))) (mulf (mulf (shapeCast S4x120 (extractStridedSlice S4x120x1 ![0, 0, 0] (res_main_while0b_v148 V0) slices_S4x120x3_S4x120x1_0_0_0) shapeCasts_S4x120x1_S4x120) (shapeCast S4x120 (extractStridedSlice S4x120x1 ![0, 0, 1] (res_main_while0b_v148 V0) slices_S4x120x3_S4x120x1_0_0_1) shapeCasts_S4x120x1_S4x120)) (shapeCast S4x120 (extractStridedSlice S4x120x1 ![0, 0, 2] (res_main_while0b_v148 V0) slices_S4x120x3_S4x120x1_0_0_2) shapeCasts_S4x120x1_S4x120)) : (Proc.devRef .tc main_while0b_v158 : DevRef τ sig).ty.Contents (Elt F)) = Cert.ReferenceIdeal.Step.b102 j s := by
  unfold Cert.ReferenceIdeal.Step.b102
  rw [← al_101 h, ← al_100 h]
  try rfl
set_option maxRecDepth 8192 in
theorem al_103 (h : Holds V0 s j) : (subf (addf (broadcastInDim S4x120 ![0, 1] bcast_S4x1_S4x120_0_1 (mulf (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1)) (shapeCast S4x1 (extractStridedSlice S4x1x1 ![0, 0, 2] (res_main_while0b_v108 V0) slices_S4x1x3_S4x1x1_0_0_2) shapeCasts_S4x1x1_S4x1))) (mulf (mulf (shapeCast S4x120 (extractStridedSlice S4x120x1 ![0, 0, 0] (res_main_while0b_v148 V0) slices_S4x120x3_S4x120x1_0_0_0) shapeCasts_S4x120x1_S4x120) (shapeCast S4x120 (extractStridedSlice S4x120x1 ![0, 0, 1] (res_main_while0b_v148 V0) slices_S4x120x3_S4x120x1_0_0_1) shapeCasts_S4x120x1_S4x120)) (shapeCast S4x120 (extractStridedSlice S4x120x1 ![0, 0, 2] (res_main_while0b_v148 V0) slices_S4x120x3_S4x120x1_0_0_2) shapeCasts_S4x120x1_S4x120))) (res_main_while0b_v139 V0) : (Proc.devRef .tc main_while0b_v159 : DevRef τ sig).ty.Contents (Elt F)) = Cert.ReferenceIdeal.Step.b103 j s := by
  unfold Cert.ReferenceIdeal.Step.b103
  rw [← al_102 h, ← al_83 h]
  try rfl
set_option maxRecDepth 8192 in
theorem al_104 (h : Holds V0 s j) : (constant S_ .f32 0x322BCC77#32 : (Proc.devRef .tc main_while0b_cst_29 : DevRef τ sig).ty.Contents (Elt F)) = Cert.ReferenceIdeal.Step.b104 j s := by
  unfold Cert.ReferenceIdeal.Step.b104
  rfl
set_option maxRecDepth 8192 in
theorem al_105 (h : Holds V0 s j) : (broadcastInDim S4x120 ![] bcast_S_S4x120 (constant S_ .f32 0x322BCC77#32) : (Proc.devRef .tc main_while0b_v160 : DevRef τ sig).ty.Contents (Elt F)) = Cert.ReferenceIdeal.Step.b105 j s := by
  unfold Cert.ReferenceIdeal.Step.b105
  rw [← al_104 h]
  try rfl
set_option maxRecDepth 8192 in
theorem al_106 (h : Holds V0 s j) : (maximumf (subf (addf (broadcastInDim S4x120 ![0, 1] bcast_S4x1_S4x120_0_1 (mulf (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1)) (shapeCast S4x1 (extractStridedSlice S4x1x1 ![0, 0, 2] (res_main_while0b_v108 V0) slices_S4x1x3_S4x1x1_0_0_2) shapeCasts_S4x1x1_S4x1))) (mulf (mulf (shapeCast S4x120 (extractStridedSlice S4x120x1 ![0, 0, 0] (res_main_while0b_v148 V0) slices_S4x120x3_S4x120x1_0_0_0) shapeCasts_S4x120x1_S4x120) (shapeCast S4x120 (extractStridedSlice S4x120x1 ![0, 0, 1] (res_main_while0b_v148 V0) slices_S4x120x3_S4x120x1_0_0_1) shapeCasts_S4x120x1_S4x120)) (shapeCast S4x120 (extractStridedSlice S4x120x1 ![0, 0, 2] (res_main_while0b_v148 V0) slices_S4x120x3_S4x120x1_0_0_2) shapeCasts_S4x120x1_S4x120))) (res_main_while0b_v139 V0)) (broadcastInDim S4x120 ![] bcast_S_S4x120 (constant S_ .f32 0x322BCC77#32)) : (Proc.devRef .tc main_while0b_v161 : DevRef τ sig).ty.Contents (Elt F)) = Cert.ReferenceIdeal.Step.b106 j s := by
  unfold Cert.ReferenceIdeal.Step.b106
  rw [← al_103 h, ← al_105 h]
  try rfl
set_option maxRecDepth 8192 in
theorem al_107 (h : Holds V0 s j) : (Host.divf (res_main_while0b_v139 V0) (maximumf (subf (addf (broadcastInDim S4x120 ![0, 1] bcast_S4x1_S4x120_0_1 (mulf (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1)) (shapeCast S4x1 (extractStridedSlice S4x1x1 ![0, 0, 2] (res_main_while0b_v108 V0) slices_S4x1x3_S4x1x1_0_0_2) shapeCasts_S4x1x1_S4x1))) (mulf (mulf (shapeCast S4x120 (extractStridedSlice S4x120x1 ![0, 0, 0] (res_main_while0b_v148 V0) slices_S4x120x3_S4x120x1_0_0_0) shapeCasts_S4x120x1_S4x120) (shapeCast S4x120 (extractStridedSlice S4x120x1 ![0, 0, 1] (res_main_while0b_v148 V0) slices_S4x120x3_S4x120x1_0_0_1) shapeCasts_S4x120x1_S4x120)) (shapeCast S4x120 (extractStridedSlice S4x120x1 ![0, 0, 2] (res_main_while0b_v148 V0) slices_S4x120x3_S4x120x1_0_0_2) shapeCasts_S4x120x1_S4x120))) (res_main_while0b_v139 V0)) (broadcastInDim S4x120 ![] bcast_S_S4x120 (constant S_ .f32 0x322BCC77#32))) : (Proc.devRef .tc main_while0b_v162 : DevRef τ sig).ty.Contents (Elt F)) = Cert.ReferenceIdeal.Step.b107 j s := by
  unfold Cert.ReferenceIdeal.Step.b107
  rw [← al_83 h, ← al_106 h]
  try rfl
set_option maxRecDepth 8192 in
theorem al_108 (h : Holds V0 s j) : (constant S_ .f32 0x3D4CCCCD#32 : (Proc.devRef .tc main_while0b_cst_30 : DevRef τ sig).ty.Contents (Elt F)) = Cert.ReferenceIdeal.Step.b108 j s := by
  unfold Cert.ReferenceIdeal.Step.b108
  rfl
set_option maxRecDepth 8192 in
theorem al_109 (h : Holds V0 s j) : (broadcastInDim S4x120 ![] bcast_S_S4x120 (constant S_ .f32 0x3D4CCCCD#32) : (Proc.devRef .tc main_while0b_v163 : DevRef τ sig).ty.Contents (Elt F)) = Cert.ReferenceIdeal.Step.b109 j s := by
  unfold Cert.ReferenceIdeal.Step.b109
  rw [← al_108 h]
  try rfl
set_option maxRecDepth 8192 in
theorem al_110 (h : Holds V0 s j) : (cmpf .ole (Host.divf (res_main_while0b_v139 V0) (maximumf (subf (addf (broadcastInDim S4x120 ![0, 1] bcast_S4x1_S4x120_0_1 (mulf (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1)) (shapeCast S4x1 (extractStridedSlice S4x1x1 ![0, 0, 2] (res_main_while0b_v108 V0) slices_S4x1x3_S4x1x1_0_0_2) shapeCasts_S4x1x1_S4x1))) (mulf (mulf (shapeCast S4x120 (extractStridedSlice S4x120x1 ![0, 0, 0] (res_main_while0b_v148 V0) slices_S4x120x3_S4x120x1_0_0_0) shapeCasts_S4x120x1_S4x120) (shapeCast S4x120 (extractStridedSlice S4x120x1 ![0, 0, 1] (res_main_while0b_v148 V0) slices_S4x120x3_S4x120x1_0_0_1) shapeCasts_S4x120x1_S4x120)) (shapeCast S4x120 (extractStridedSlice S4x120x1 ![0, 0, 2] (res_main_while0b_v148 V0) slices_S4x120x3_S4x120x1_0_0_2) shapeCasts_S4x120x1_S4x120))) (res_main_while0b_v139 V0)) (broadcastInDim S4x120 ![] bcast_S_S4x120 (constant S_ .f32 0x322BCC77#32)))) (broadcastInDim S4x120 ![] bcast_S_S4x120 (constant S_ .f32 0x3D4CCCCD#32)) : (Proc.devRef .tc main_while0b_v164 : DevRef τ sig).ty.Contents (Elt F)) = Cert.ReferenceIdeal.Step.b110 j s := by
  unfold Cert.ReferenceIdeal.Step.b110
  rw [← al_107 h, ← al_109 h]
  try rfl
set_option maxRecDepth 8192 in
theorem al_111 (h : Holds V0 s j) : (andi (V0 (Proc.devRef .tc main_v85_5)) (cmpf .ole (Host.divf (res_main_while0b_v139 V0) (maximumf (subf (addf (broadcastInDim S4x120 ![0, 1] bcast_S4x1_S4x120_0_1 (mulf (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1)) (shapeCast S4x1 (extractStridedSlice S4x1x1 ![0, 0, 2] (res_main_while0b_v108 V0) slices_S4x1x3_S4x1x1_0_0_2) shapeCasts_S4x1x1_S4x1))) (mulf (mulf (shapeCast S4x120 (extractStridedSlice S4x120x1 ![0, 0, 0] (res_main_while0b_v148 V0) slices_S4x120x3_S4x120x1_0_0_0) shapeCasts_S4x120x1_S4x120) (shapeCast S4x120 (extractStridedSlice S4x120x1 ![0, 0, 1] (res_main_while0b_v148 V0) slices_S4x120x3_S4x120x1_0_0_1) shapeCasts_S4x120x1_S4x120)) (shapeCast S4x120 (extractStridedSlice S4x120x1 ![0, 0, 2] (res_main_while0b_v148 V0) slices_S4x120x3_S4x120x1_0_0_2) shapeCasts_S4x120x1_S4x120))) (res_main_while0b_v139 V0)) (broadcastInDim S4x120 ![] bcast_S_S4x120 (constant S_ .f32 0x322BCC77#32)))) (broadcastInDim S4x120 ![] bcast_S_S4x120 (constant S_ .f32 0x3D4CCCCD#32))) : (Proc.devRef .tc main_while0b_v165 : DevRef τ sig).ty.Contents (Elt F)) = Cert.ReferenceIdeal.Step.b111 j s := by
  unfold Cert.ReferenceIdeal.Step.b111
  rw [← al_110 h, h.f_5]
  try rfl
set_option maxRecDepth 8192 in
theorem al_112 (h : Holds V0 s j) : (iotaInDim S120 32 0 : (Proc.devRef .tc main_while0b_v166 : DevRef τ sig).ty.Contents (Elt F)) = Cert.ReferenceIdeal.Step.b112 j s := by
  unfold Cert.ReferenceIdeal.Step.b112
  rfl
set_option maxRecDepth 8192 in
theorem al_113 (h : Holds V0 s j) : (broadcastInDim S1x120 ![1] bcast_S120_S1x120_1 (iotaInDim S120 32 0) : (Proc.devRef .tc main_while0b_v167 : DevRef τ sig).ty.Contents (Elt F)) = Cert.ReferenceIdeal.Step.b113 j s := by
  unfold Cert.ReferenceIdeal.Step.b113
  rw [← al_112 h]
  try rfl
set_option maxRecDepth 8192 in
theorem al_114 (h : Holds V0 s j) : (broadcastInDim S4x120 ![0, 1] bcast_S1x120_S4x120_0_1 (broadcastInDim S1x120 ![1] bcast_S120_S1x120_1 (iotaInDim S120 32 0)) : (Proc.devRef .tc main_while0b_v168 : DevRef τ sig).ty.Contents (Elt F)) = Cert.ReferenceIdeal.Step.b114 j s := by
  unfold Cert.ReferenceIdeal.Step.b114
  rw [← al_113 h]
  try rfl
set_option maxRecDepth 8192 in
theorem al_115 (h : Holds V0 s j) : (broadcastInDim S4x120 ![0, 1] bcast_S4x1_S4x120_0_1 (res_main_while0b_indices_21 V0) : (Proc.devRef .tc main_while0b_v169 : DevRef τ sig).ty.Contents (Elt F)) = Cert.ReferenceIdeal.Step.b115 j s := by
  unfold Cert.ReferenceIdeal.Step.b115
  rw [← al_7 h]
  try rfl
set_option maxRecDepth 8192 in
theorem al_116 (h : Holds V0 s j) : (cmpi .ne (broadcastInDim S4x120 ![0, 1] bcast_S1x120_S4x120_0_1 (broadcastInDim S1x120 ![1] bcast_S120_S1x120_1 (iotaInDim S120 32 0))) (broadcastInDim S4x120 ![0, 1] bcast_S4x1_S4x120_0_1 (res_main_while0b_indices_21 V0)) : (Proc.devRef .tc main_while0b_v170 : DevRef τ sig).ty.Contents (Elt F)) = Cert.ReferenceIdeal.Step.b116 j s := by
  unfold Cert.ReferenceIdeal.Step.b116
  rw [← al_114 h, ← al_115 h]
  try rfl
set_option maxRecDepth 8192 in
theorem al_117 (h : Holds V0 s j) : (andi (andi (V0 (Proc.devRef .tc main_v85_5)) (cmpf .ole (Host.divf (res_main_while0b_v139 V0) (maximumf (subf (addf (broadcastInDim S4x120 ![0, 1] bcast_S4x1_S4x120_0_1 (mulf (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1)) (shapeCast S4x1 (extractStridedSlice S4x1x1 ![0, 0, 2] (res_main_while0b_v108 V0) slices_S4x1x3_S4x1x1_0_0_2) shapeCasts_S4x1x1_S4x1))) (mulf (mulf (shapeCast S4x120 (extractStridedSlice S4x120x1 ![0, 0, 0] (res_main_while0b_v148 V0) slices_S4x120x3_S4x120x1_0_0_0) shapeCasts_S4x120x1_S4x120) (shapeCast S4x120 (extractStridedSlice S4x120x1 ![0, 0, 1] (res_main_while0b_v148 V0) slices_S4x120x3_S4x120x1_0_0_1) shapeCasts_S4x120x1_S4x120)) (shapeCast S4x120 (extractStridedSlice S4x120x1 ![0, 0, 2] (res_main_while0b_v148 V0) slices_S4x120x3_S4x120x1_0_0_2) shapeCasts_S4x120x1_S4x120))) (res_main_while0b_v139 V0)) (broadcastInDim S4x120 ![] bcast_S_S4x120 (constant S_ .f32 0x322BCC77#32)))) (broadcastInDim S4x120 ![] bcast_S_S4x120 (constant S_ .f32 0x3D4CCCCD#32)))) (cmpi .ne (broadcastInDim S4x120 ![0, 1] bcast_S1x120_S4x120_0_1 (broadcastInDim S1x120 ![1] bcast_S120_S1x120_1 (iotaInDim S120 32 0))) (broadcastInDim S4x120 ![0, 1] bcast_S4x1_S4x120_0_1 (res_main_while0b_indices_21 V0))) : (Proc.devRef .tc main_while0b_v171 : DevRef τ sig).ty.Contents (Elt F)) = Cert.ReferenceIdeal.Step.b117 j s := by
  unfold Cert.ReferenceIdeal.Step.b117
  rw [← al_111 h, ← al_116 h]
  try rfl

/-! One trip's step of the carried values is `step`, field by field; a counter steps to the next number. -/

theorem step_4 (h : Holds V0 s j) : step_main_v85_4 V0 = (step j s).main_v85_4 := by
  unfold step_main_v85_4 Cert.ReferenceIdeal.Step.step
  show id (select (broadcastInDim S4x120x8 ![0, 1, 2] bcast_S4x120x1_S4x120x8_0_1_2 (andi (broadcastInDim S4x120x1 ![0, 1, 2] bcast_S1x120x1_S4x120x1_0_1_2 (broadcastInDim S1x120x1 ![1] bcast_S120_S1x120x1_1 (cmpi .eq (iotaInDim S120 32 0) (broadcastInDim S120 ![] bcast_S_S120 (id (V0 (Proc.devRef .tc main_v85_3))))))) (broadcastInDim S4x120x1 ![0, 1, 2] bcast_S4x1x1_S4x120x1_0_1_2 (broadcastInDim S4x1x1 ![0, 1] bcast_S4x1_S4x1x1_0_1 (cmpf .ogt ((Host.topK S4x1 1 (FloatOps.cmpfTotal .gt) (res_main_while0b_v87 V0) sliceFits_S4x120_S4x1).1) (broadcastInDim S4x1 ![] bcast_S_S4x1 (constant S_ .f32 0xFF800000#32))))))) (broadcastInDim S4x120x8 ![0, 1, 2] bcast_S4x1x8_S4x120x8_0_1_2 (broadcastInDim S4x1x8 ![0, 2] bcast_S4x8_S4x1x8_0_2 ((concatenate S4x8 1 [⟨S4x1, ((broadcastInDim S4x1 ![] bcast_S_S4x1 (constant S_ .f32 0x3F800000#32)) : (⟨S4x1, .f32⟩ : BufTy).Contents (Elt F))⟩, ⟨S4x1, ((Host.gather gather_S4x120_S4x1x1_S4x1_n_1_0_0_1_2_11 (V0 (Proc.devRef .tc main_v85_0)) (shapeCast S4x1x1 (select (cmpi .slt (res_main_while0b_indices_21 V0) (broadcastInDim S4x1 ![] bcast_S_S4x1 (constantI S_ 32 0#32))) (addi (res_main_while0b_indices_21 V0) (broadcastInDim S4x1 ![] bcast_S_S4x1 (constantI S_ 32 120#32))) (res_main_while0b_indices_21 V0)) shapeCasts_S4x1_S4x1x1)) : (⟨S4x1, .f32⟩ : BufTy).Contents (Elt F))⟩, ⟨S4x6, ((shapeCast S4x6 (res_main_while0b_v92 V0) shapeCasts_S4x1x6_S4x6) : (⟨S4x6, .f32⟩ : BufTy).Contents (Elt F))⟩] concatenates_S4x1_S4x1_S4x6_S4x8_d1 : (⟨S4x8, .f32⟩ : BufTy).Contents (Elt F))))) (V0 (Proc.devRef .tc main_v85_4))) = _
  rw [al_45 h]
  try rfl
theorem step_5 (h : Holds V0 s j) : step_main_v85_5 V0 = (step j s).main_v85_5 := by
  unfold step_main_v85_5 Cert.ReferenceIdeal.Step.step
  show id (andi (andi (V0 (Proc.devRef .tc main_v85_5)) (cmpf .ole (Host.divf (res_main_while0b_v139 V0) (maximumf (subf (addf (broadcastInDim S4x120 ![0, 1] bcast_S4x1_S4x120_0_1 (mulf (mulf (shapeCast S4x1 (extractStridedSlice S4x1x1 ![0, 0, 0] (res_main_while0b_v108 V0) slices_S4x1x3_S4x1x1_0_0_0) shapeCasts_S4x1x1_S4x1) (shapeCast S4x1 (extractStridedSlice S4x1x1 ![0, 0, 1] (res_main_while0b_v108 V0) slices_S4x1x3_S4x1x1_0_0_1) shapeCasts_S4x1x1_S4x1)) (shapeCast S4x1 (extractStridedSlice S4x1x1 ![0, 0, 2] (res_main_while0b_v108 V0) slices_S4x1x3_S4x1x1_0_0_2) shapeCasts_S4x1x1_S4x1))) (mulf (mulf (shapeCast S4x120 (extractStridedSlice S4x120x1 ![0, 0, 0] (res_main_while0b_v148 V0) slices_S4x120x3_S4x120x1_0_0_0) shapeCasts_S4x120x1_S4x120) (shapeCast S4x120 (extractStridedSlice S4x120x1 ![0, 0, 1] (res_main_while0b_v148 V0) slices_S4x120x3_S4x120x1_0_0_1) shapeCasts_S4x120x1_S4x120)) (shapeCast S4x120 (extractStridedSlice S4x120x1 ![0, 0, 2] (res_main_while0b_v148 V0) slices_S4x120x3_S4x120x1_0_0_2) shapeCasts_S4x120x1_S4x120))) (res_main_while0b_v139 V0)) (broadcastInDim S4x120 ![] bcast_S_S4x120 (constant S_ .f32 0x322BCC77#32)))) (broadcastInDim S4x120 ![] bcast_S_S4x120 (constant S_ .f32 0x3D4CCCCD#32)))) (cmpi .ne (broadcastInDim S4x120 ![0, 1] bcast_S1x120_S4x120_0_1 (broadcastInDim S1x120 ![1] bcast_S120_S1x120_1 (iotaInDim S120 32 0))) (broadcastInDim S4x120 ![0, 1] bcast_S4x1_S4x120_0_1 (res_main_while0b_indices_21 V0)))) = _
  rw [al_117 h]
  try rfl
theorem step_2 (h : Holds V0 s j) : step_main_v85_2 V0 = constantI S_ 32 (BitVec.ofNat 32 (j + 1)) := by
  unfold step_main_v85_2
  rw [h.n_2]
  funext i
  show BitVec.ofNat 32 j + 1#32 = BitVec.ofNat 32 (j + 1)
  simp only [BitVec.ofNat_add]
theorem step_3 (h : Holds V0 s j) : step_main_v85_3 V0 = constantI S_ 32 (BitVec.ofNat 32 (j + 1)) := by
  unfold step_main_v85_3
  rw [h.n_3]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_4 := (STEP_main_v85_4 V0).trans (step_4 h)
  f_5 := (STEP_main_v85_5 V0).trans (step_5 h)
  n_2 := (STEP_main_v85_2 V0).trans (step_2 h)
  n_3 := (STEP_main_v85_3 V0).trans (step_3 h)
  f_0 := (STEP_main_v85_0 V0).trans h.f_0
  f_1 := (STEP_main_v85_1 V0).trans h.f_1

end Cert.Proof.RefRun

end
-- ==== Proof.RefEntry.lean ====
module

public import proofs.«01_k».proof.Proof.RefInit
public import proofs.«01_k».proof.Proof.RefRun

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536
set_option maxHeartbeats 2000000

/-! What the operations before the loop leave in the buffers that the concatenations read. -/

/-- A coordinate of the first level's grid. -/
theorem at_v6 : upto hostOps0 (launchContents m c) 11 (Proc.tc.devRef main_v6) = K_main_v6 (F := F) := by
  after_reads_simp
  rfl
/-- A coordinate of the first level's grid. -/
theorem at_v7 : upto hostOps0 (launchContents m c) 11 (Proc.tc.devRef main_v7) = K_main_v7 (F := F) := by
  after_reads_simp
  rfl
/-- A coordinate of the first level's grid. -/
theorem at_v8 : upto hostOps0 (launchContents m c) 11 (Proc.tc.devRef main_v8) = K_main_v8 (F := F) := by
  after_reads_simp
  rfl
/-- A coordinate of the second level's grid. -/
theorem at_v43 : upto hostOps0 (launchContents m c) 53 (Proc.tc.devRef main_v43) = K_main_v43 (F := F) := by
  after_reads_simp
  rfl
/-- A coordinate of the second level's grid. -/
theorem at_v44 : upto hostOps0 (launchContents m c) 53 (Proc.tc.devRef main_v44) = K_main_v44 (F := F) := by
  after_reads_simp
  rfl
/-- A coordinate of the second level's grid. -/
theorem at_v45 : upto hostOps0 (launchContents m c) 53 (Proc.tc.devRef main_v45) = K_main_v45 (F := F) := by
  after_reads_simp
  rfl
/-- The first level's centres. -/
theorem at_v30 : upto hostOps0 (launchContents m c) 41 (Proc.tc.devRef main_v30) = A_main_v30 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  have h0 : upto hostOps0 (launchContents m c) 11 (Proc.tc.devRef (![main_v6, main_v7, main_v8] 0)) = K_main_v6 (F := F) := at_v6 m c
  have h1 : upto hostOps0 (launchContents m c) 11 (Proc.tc.devRef (![main_v6, main_v7, main_v8] 1)) = K_main_v7 (F := F) := at_v7 m c
  have h2 : upto hostOps0 (launchContents m c) 11 (Proc.tc.devRef (![main_v6, main_v7, main_v8] 2)) = K_main_v8 (F := F) := at_v8 m c
  rw [h0, h1, h2]
  rfl
/-- The first level's sizes. -/
theorem at_v35 : upto hostOps0 (launchContents m c) 41 (Proc.tc.devRef main_v35) = A_main_v35 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rfl
/-- The second level's centres. -/
theorem at_v67 : upto hostOps0 (launchContents m c) 83 (Proc.tc.devRef main_v67) = A_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  have h0 : upto hostOps0 (launchContents m c) 53 (Proc.tc.devRef (![main_v43, main_v44, main_v45] 0)) = K_main_v43 (F := F) := at_v43 m c
  have h1 : upto hostOps0 (launchContents m c) 53 (Proc.tc.devRef (![main_v43, main_v44, main_v45] 1)) = K_main_v44 (F := F) := at_v44 m c
  have h2 : upto hostOps0 (launchContents m c) 53 (Proc.tc.devRef (![main_v43, main_v44, main_v45] 2)) = K_main_v45 (F := F) := at_v45 m c
  rw [h0, h1, h2]
  rfl
/-- The second level's sizes. -/
theorem at_v72 : upto hostOps0 (launchContents m c) 83 (Proc.tc.devRef main_v72) = A_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rfl
/-- The first level's boxes. -/
theorem at_v36 : upto hostOps0 (launchContents m c) 91 (Proc.tc.devRef main_v36) = A_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rw [at_v30 m c, at_v35 m c]
  rfl
/-- The second level's boxes. -/
theorem at_v73 : upto hostOps0 (launchContents m c) 91 (Proc.tc.devRef main_v73) = A_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rw [at_v67 m c, at_v72 m c]
  rfl
/-- The first level's scores taken. -/
theorem at_values : upto hostOps0 (launchContents m c) 86 (Proc.tc.devRef main_values) = A_main_values (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rfl
/-- The second level's scores taken. -/
theorem at_values_7 : upto hostOps0 (launchContents m c) 86 (Proc.tc.devRef main_values_7) = A_main_values_7 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rfl
/-- The first level's positions. -/
theorem at_indices : upto hostOps0 (launchContents m c) 90 (Proc.tc.devRef main_indices) = A_main_indices (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rfl
/-- The second level's positions. -/
theorem at_v76 : upto hostOps0 (launchContents m c) 90 (Proc.tc.devRef main_v76) = A_main_v76 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rfl

/-- The boxes of both levels, and the positions of the candidates among them. -/
theorem at_v78 : after hostOps0 (launchContents m c) (Proc.tc.devRef main_v78) = A_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rw [at_v36 m c, at_v73 m c]
  rfl
theorem at_v79 : after hostOps0 (launchContents m c) (Proc.tc.devRef main_v79) = A_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rw [at_indices m c, at_v76 m c]
  rfl

/-- The candidates' boxes gathered, over any contents of the two. -/
theorem at_call (V : Valuation τ sig (Elt F)) (x : (⟨S4x124416x6, .f32⟩ : BufTy).Contents (Elt F)) (i : (⟨S4x120x1, .i32⟩ : BufTy).Contents (Elt F))
    (hx : V (Proc.tc.devRef main_v78) = x) (hi : V (Proc.tc.devRef main_v79) = i) :
    after hostOps0_2 (after hostOps0_1 V) (Proc.tc.devRef main_v85_1)
      = Host.gather gather_S4x124416x6_S4x120x1_S4x120x6_2_1_0_0_1_2_116 x
          (select (cmpi .slt i (K_main_call0_v0 (F := F))) (addi i (K_main_call0_v2 (F := F))) i) := by
  after_reads_simp
  rw [hx, hi]
  rfl

/-- The scores of both levels. -/
theorem at_v74 : after hostOps0 (launchContents m c) (Proc.tc.devRef main_v74) = A_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_reads_simp
  rw [at_values m c, at_values_7 m c]
  rfl

/-- The other carried values, over any contents. -/
theorem at_rest (V : Valuation τ sig (Elt F)) (x : (⟨S4x120, .f32⟩ : BufTy).Contents (Elt F)) (hx : V (Proc.tc.devRef main_v74) = x) :
    after hostOps0_2 (after hostOps0_1 V) (Proc.tc.devRef main_v85_0) = x
      ∧ after hostOps0_2 (after hostOps0_1 V) (Proc.tc.devRef main_v85_5) = cmpf .ogt x (K_main_v83 (F := F)) := by
  constructor
  · after_reads_simp
    rw [hx]
    rfl
  · after_reads_simp
    rw [hx]
    rfl

/-- The candidates' boxes at the entry. -/
theorem entry_1 : entryContents preI m c (Proc.tc.devRef main_v85_1) = A_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold A_main_v80 A_main_call0_v4 A_main_call0_v1 A_main_call0_v3
  simp only [entryContents, afterL_cons, afterL_nil]
  exact at_call (after hostOps0 (launchContents m c)) _ _ (at_v78 m c) (at_v79 m c)

/-- The candidates' scores and live lanes at the entry. -/
theorem entry_0 : entryContents preI m c (Proc.tc.devRef main_v85_0) = A_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]
  exact (at_rest (after hostOps0 (launchContents m c)) _ (at_v74 m c)).1
theorem entry_5 : entryContents preI m c (Proc.tc.devRef main_v85_5) = A_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold A_main_v84
  simp only [entryContents, afterL_cons, afterL_nil]
  exact (at_rest (after hostOps0 (launchContents m c)) _ (at_v74 m c)).2

/-- The table and the numbers at the entry. -/
theorem entry_4 : entryContents preI m c (Proc.tc.devRef main_v85_4) = K_main_v82 (F := F) := by
  simp only [entryContents, afterL_cons, afterL_nil]; after_reads_simp
  rfl
theorem entry_2 : entryContents preI m c (Proc.tc.devRef main_v85_2) = constantI S_ 32 (BitVec.ofNat 32 0) := by
  simp only [entryContents, afterL_cons, afterL_nil]; after_reads_simp
  rfl
theorem entry_3 : entryContents preI m c (Proc.tc.devRef main_v85_3) = constantI S_ 32 (BitVec.ofNat 32 0) := by
  simp only [entryContents, afterL_cons, afterL_nil]; after_reads_simp
  rfl

/-- What the operations before the loop leave: the set-up values, number 0, the initial state. -/
theorem entry_holds : Holds (entryContents preI m c) (initState m c) 0 :=
  ⟨(entry_4 m c).trans (init_4 _ _ _ _ _ _).symm, (entry_5 m c).trans (init_5 _ _ _ _ _ _).symm,
    (entry_0 m c).trans (init_0 _ _ _ _ _ _).symm, (entry_1 m c).trans (init_1 _ _ _ _ _ _).symm, entry_2 m c, entry_3 m c⟩

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 20 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v85_4) = (it c 20).main_v85_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 20
    ⟨(h c).1.trans hk.f_4, (h c).2.1, (h c).2.2.1, (h c).2.2.2.1, (h c).2.2.2.2.1, (h c).2.2.2.2.2.1, (h c).2.2.2.2.2.2⟩) (Value.run m ρ)

end Cert.Proof.RefRun

end
-- ==== Proof.TopOrder.lean ====
/-
  The order in which a stable descending sort takes the entries of a list of extended reals: position `r` of the sort is
  the greatest entry not taken before it, the lowest of equal ones.
-/
module

public import Idealize.ShloMosaic.Lib.SortFacts
public import Idealize.ShloMosaic.Lib.SortPrefix
public import Idealize.ShloMosaic.PureOps.Ideal

@[expose] public section

noncomputable section

namespace Cert.Proof

open Idealize.ShloMosaic

variable {n : ℕ}

/-- The greater entry is taken first, the lower position of two equal ones. -/
def firstOf (X : Fin n → EReal) (k k' : Fin n) : Bool :=
  decide (X k' < X k) || (decide (X k = X k') && decide (k < k'))

theorem strict_firstOf (X : Fin n → EReal) : StrictTotalBefore (firstOf X) :=
  StrictTotalBefore.of_key_then_position (fun a b => decide (b < a)) X (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- The position of the list that the sort puts at `r`. -/
def topAt (X : Fin n → EReal) (r : Fin n) : Fin n := sortedFrom (fun k k' => decide (X k' < X k)) r

/-- On a list in increasing order of position the stable sort by value alone is the sort by value, then position. -/
theorem stableSort_firstOf (X : Fin n → EReal) (l : List (Fin n)) (hl : l.Pairwise (· < ·)) :
    stableSort (fun k k' => decide (X k' < X k)) l = stableSort (firstOf X) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have := hl.1 b hb'
    unfold firstOf
    simp [not_lt.mpr this.le]

theorem topAt_eq (X : Fin n → EReal) (r : Fin n) : topAt X r = sortedFrom (firstOf X) r := by
  unfold topAt sortedFrom
  have h : sortPositions n (fun k k' => decide (X k' < X k)) = sortPositions n (firstOf X) :=
    stableSort_firstOf X _ (List.pairwise_lt_finRange n)
  rw [List.get_of_eq h]
  rfl

theorem topAt_injective (X : Fin n → EReal) : Function.Injective (topAt X) := sortedFrom_injective _

/-- An entry not taken before `r` is at most the one taken at `r`, and lies after it if it is equal. -/
theorem topAt_spec (X : Fin n → EReal) (r p : Fin n) (hp : ∀ j, j < r → topAt X j ≠ p) :
    X p ≤ X (topAt X r) ∧ (X p = X (topAt X r) → topAt X r ≤ p) := by
  obtain ⟨j, rfl⟩ : ∃ j, topAt X j = p := sortedFrom_surjective _ p
  have hj : r ≤ j := not_lt.mp fun h => hp j h rfl
  rcases hj.eq_or_lt with rfl | hlt
  · exact ⟨le_refl _, fun _ => le_refl _⟩
  · have hB := strict_firstOf X
    have h := sortedFrom_noInversion (firstOf X) (firstOf X) (fun a b h => hB.asymm a b h) (fun _ _ h => h) hB.negTrans r j hlt
    rw [← topAt_eq, ← topAt_eq] at h
    unfold firstOf at h
    simp only [Bool.or_eq_false_iff, decide_eq_false_iff_not, not_lt, Bool.and_eq_false_iff] at h
    refine ⟨h.1, fun e => ?_⟩
    rcases h.2 with h' | h'
    · exact absurd e h'
    · exact h'

end Cert.Proof

end
-- ==== Proof.TopRounds.lean ====
/-
  A round of the extraction, in numbers. The scores of an image stand in rows of 128; the scores taken before the round
  have been replaced by −1, and none is negative. Then the greatest of the block is the score a stable descending sort puts
  at the round's position, and the least position at which it stands is the sort's.
-/
module

public import proofs.«01_k».proof.Proof.TopOrder
public import Idealize.ShloMosaic.Lib.Pointwise
public import Idealize.ShloMosaic.Lib.SortNet.Extract

@[expose] public section

noncomputable section

namespace Cert.Proof

open Idealize.ShloMosaic Idealize.ShloMosaic.SortNet

/-- The maximum of a finite family of extended reals, from −∞, is its attained upper bound. -/
theorem fold_max_eq {κ : Type} [Fintype κ] (f : κ → EReal) (v : EReal) (hle : ∀ k, f k ≤ v) (hat : ∃ k, f k = v) :
    Finset.fold max (⊥ : EReal) f Finset.univ = v := by
  have h : Finset.fold max (⊥ : EReal) f Finset.univ = Finset.univ.sup f := rfl
  rw [h]
  obtain ⟨k, hk⟩ := hat
  exact le_antisymm (Finset.sup_le fun k _ => hle k) (hk ▸ Finset.le_sup (f := f) (Finset.mem_univ k))

/-- The same over a family of families. -/
theorem fold_max_eq₂ {κ ι : Type} [Fintype κ] [Fintype ι] (f : κ → ι → EReal) (v : EReal) (hle : ∀ k i, f k i ≤ v)
    (hat : ∃ k i, f k i = v) :
    Finset.fold max (⊥ : EReal) (fun k => Finset.fold max (⊥ : EReal) (f k) Finset.univ) Finset.univ = v := by
  have h : ∀ k, Finset.fold max (⊥ : EReal) (f k) Finset.univ = Finset.univ.sup (f k) := fun _ => rfl
  obtain ⟨k, i, hk⟩ := hat
  have hk' : ∀ k, Finset.univ.sup (f k) ≤ v := fun k => Finset.sup_le fun i _ => hle k i
  refine fold_max_eq _ v (fun k => (h k).le.trans (hk' k)) ⟨k, (h k).trans (le_antisymm (hk' k) ?_)⟩
  exact hk ▸ Finset.le_sup (f := f k) (Finset.mem_univ i)

/-- The signed minimum of a finite family of words is its attained lower bound. -/
theorem fold_min_eq {κ : Type} [Fintype κ] (f : κ → BitVec 32) (v : BitVec 32) (hle : ∀ k, v.toInt ≤ (f k).toInt)
    (hat : ∃ k, f k = v) : Finset.fold IntOp.minsi 2147483647#32 f Finset.univ = v := by
  classical
  have key : ∀ s : Finset κ, (Finset.fold IntOp.minsi 2147483647#32 f s).toInt ≤ 2147483647
      ∧ (∀ k ∈ s, (Finset.fold IntOp.minsi 2147483647#32 f s).toInt ≤ (f k).toInt)
      ∧ (v.toInt ≤ (Finset.fold IntOp.minsi 2147483647#32 f s).toInt) := by
    intro s
    induction s using Finset.induction_on with
    | empty =>
      refine ⟨by simp, by simp, ?_⟩
      have := BitVec.toInt_lt (x := v)
      simp; omega
    | insert a s ha ih =>
      obtain ⟨h1, h2, h3⟩ := ih
      rw [Finset.fold_insert ha, toInt_minsi]
      refine ⟨by omega, fun k hk => ?_, ?_⟩
      · rcases Finset.mem_insert.mp hk with rfl | hk
        · exact min_le_left _ _
        · exact (min_le_right _ _).trans (h2 k hk)
      · exact le_min (hle a) h3
  obtain ⟨k, hk⟩ := hat
  obtain ⟨-, h2, h3⟩ := key Finset.univ
  exact BitVec.eq_of_toInt_eq (le_antisymm (hk ▸ h2 k (Finset.mem_univ k)) h3)

theorem fold_min_le {κ : Type} [Fintype κ] (f : κ → BitVec 32) (k : κ) :
    (Finset.fold IntOp.minsi 2147483647#32 f Finset.univ).toInt ≤ (f k).toInt := by
  classical
  rw [← Finset.insert_erase (Finset.mem_univ k), Finset.fold_insert (Finset.notMem_erase k _), toInt_minsi]
  exact min_le_left _ _

theorem le_fold_min {κ : Type} [Fintype κ] (f : κ → BitVec 32) (v : BitVec 32) (hle : ∀ k, v.toInt ≤ (f k).toInt) :
    v.toInt ≤ (Finset.fold IntOp.minsi 2147483647#32 f Finset.univ).toInt := by
  classical
  refine Finset.induction_on (motive := fun s => v.toInt ≤ (Finset.fold IntOp.minsi 2147483647#32 f s).toInt) _ ?_ ?_
  · have := BitVec.toInt_lt (x := v)
    simp; omega
  · intro a s ha ih
    rw [Finset.fold_insert ha, toInt_minsi]
    exact le_min (hle a) ih

/-- The same over a family of families. -/
theorem fold_min_eq₂ {κ ι : Type} [Fintype κ] [Fintype ι] (f : κ → ι → BitVec 32) (v : BitVec 32)
    (hle : ∀ k i, v.toInt ≤ (f k i).toInt) (hat : ∃ k i, f k i = v) :
    Finset.fold IntOp.minsi 2147483647#32 (fun k => Finset.fold IntOp.minsi 2147483647#32 (f k) Finset.univ) Finset.univ = v := by
  obtain ⟨k, i, hk⟩ := hat
  refine fold_min_eq _ v (fun k => le_fold_min (f k) v (hle k)) ⟨k, fold_min_eq _ v (hle k) ⟨i, hk⟩⟩

section Round

variable {N R : ℕ} (hN : N = R * 128) (X : Fin N → EReal)

include hN in
theorem flat_lt (i : Fin R) (j : Fin 128) : i.val * 128 + j.val < N := by
  have := i.isLt; have := j.isLt; omega

/-- The block before round `r`: −1 at the positions taken before, the scores elsewhere. -/
def taken (r : ℕ) (p : Fin N) : EReal :=
  open Classical in if ∃ s : Fin N, s.val < r ∧ topAt X s = p then (-1 : EReal) else X p

theorem taken_zero (p : Fin N) : taken X 0 p = X p := by
  unfold taken; rw [if_neg]; rintro ⟨s, h, -⟩; exact absurd h (Nat.not_lt_zero _)

theorem taken_succ (r : Fin N) (p : Fin N) :
    taken X (r.val + 1) p = if p = topAt X r then (-1 : EReal) else taken X r.val p := by
  unfold taken
  by_cases h : p = topAt X r
  · rw [if_pos h, if_pos ⟨r, Nat.lt_succ_self _, h.symm⟩]
  · rw [if_neg h]
    by_cases h' : ∃ s : Fin N, s.val < r.val ∧ topAt X s = p
    · rw [if_pos h', if_pos]
      obtain ⟨s, hs, e⟩ := h'
      exact ⟨s, Nat.lt_succ_of_lt hs, e⟩
    · rw [if_neg h', if_neg]
      rintro ⟨s, hs, e⟩
      rcases Nat.lt_succ_iff_lt_or_eq.mp hs with hs | hs
      · exact h' ⟨s, hs, e⟩
      · exact h (by rw [← e, Fin.ext hs])

theorem taken_top (r : Fin N) : taken X r.val (topAt X r) = X (topAt X r) := by
  unfold taken
  rw [if_neg]
  rintro ⟨s, hs, e⟩
  have := topAt_injective X e
  omega

variable (h0 : ∀ p, 0 ≤ X p)
include h0

theorem taken_le (r : Fin N) (p : Fin N) :
    taken X r.val p ≤ X (topAt X r) ∧ (taken X r.val p = X (topAt X r) → topAt X r ≤ p) := by
  unfold taken
  have hneg : (-1 : EReal) < 0 := by
    rw [show (-1 : EReal) = ((-1 : ℝ) : EReal) from rfl]; exact_mod_cast (by norm_num : (-1 : ℝ) < 0)
  have hpos := h0 (topAt X r)
  split
  · exact ⟨(hneg.trans_le hpos).le, fun e => absurd e (hneg.trans_le hpos).ne⟩
  · rename_i h
    exact topAt_spec X r p fun j hj e => h ⟨j, hj, e⟩

/-- The greatest of the block is the score the sort puts at the round's position. -/
theorem round_max (r : Fin N) :
    Finset.fold max (⊥ : EReal) (fun i : Fin R => Finset.fold max (⊥ : EReal)
      (fun j : Fin 128 => taken X r.val ⟨i.val * 128 + j.val, flat_lt hN i j⟩) Finset.univ) Finset.univ = X (topAt X r) := by
  refine fold_max_eq₂ _ _ (fun i j => (taken_le X h0 r _).1) ?_
  have ht := (topAt X r).isLt
  refine ⟨⟨(topAt X r).val / 128, by omega⟩, ⟨(topAt X r).val % 128, by omega⟩, ?_⟩
  rw [show (⟨_, _⟩ : Fin N) = topAt X r from Fin.ext (by simp only []; omega)]
  exact taken_top X r

/-- The least position at which it stands is the sort's. -/
theorem round_idx (hsmall : N ≤ 1073741824) (r : Fin N) :
    Finset.fold IntOp.minsi 2147483647#32 (fun i : Fin R => Finset.fold IntOp.minsi 2147483647#32
      (fun j : Fin 128 => if taken X r.val ⟨i.val * 128 + j.val, flat_lt hN i j⟩ = X (topAt X r)
        then BitVec.ofNat 32 (i.val * 128 + j.val) else 1073741824#32) Finset.univ) Finset.univ
      = BitVec.ofNat 32 (topAt X r).val := by
  have hint : ∀ n : ℕ, n ≤ 1073741824 → (BitVec.ofNat 32 n).toInt = n := fun n hn => by
    rw [BitVec.toInt_ofNat']; simp [Int.bmod]; omega
  have ht := (topAt X r).isLt
  refine fold_min_eq₂ _ _ (fun i j => ?_) ?_
  · split
    · rename_i h
      have h' := (taken_le X h0 r _).2 h
      have := flat_lt hN i j
      rw [hint _ (by omega), hint _ (by omega)]
      exact_mod_cast h'
    · rw [hint _ (by omega), hint 1073741824 (le_refl _)]
      omega
  · refine ⟨⟨(topAt X r).val / 128, by omega⟩, ⟨(topAt X r).val % 128, by omega⟩, ?_⟩
    have e : (⟨(topAt X r).val / 128 * 128 + (topAt X r).val % 128, by omega⟩ : Fin N) = topAt X r := Fin.ext (by simp only []; omega)
    rw [if_pos]
    · congr 1
      exact congrArg Fin.val e
    · exact (congrArg (taken X r.val) e).trans (taken_top X r)

end Round

end Cert.Proof

end
-- ==== Proof.Greedy.lean ====
/-
  Greedy suppression of scored boxes, on its own: what both programs compute of one image's 120 candidates.
-/
module

public import proofs.«01_k».proof.Proof.TopRounds

@[expose] public section

noncomputable section

namespace Cert.Proof

open Idealize.ShloMosaic

/-- The float words both programs compare with or divide by. -/
def thr : EReal := Ideal.ofBits .f32 0x3E19999A#32
def iouThr : EReal := Ideal.ofBits .f32 0x3D4CCCCD#32
def tiny : EReal := Ideal.ofBits .f32 0x322BCC77#32

/-- A box's low and high corner on an axis, of its centre and its size. -/
def loOf (c s : EReal) : EReal := c - s * Ideal.ofBits .f32 0x3F000000#32
def hiOf (c s : EReal) : EReal := c + s * Ideal.ofBits .f32 0x3F000000#32

/-- The common extent of two boxes on an axis. -/
def ext (c s c' s' : EReal) : EReal := max (min (hiOf c s) (hiOf c' s') - max (loOf c s) (loOf c' s')) 0

/-- The common volume of two boxes, a box being three centres and three sizes. -/
def common (x y : Fin 6 → EReal) : EReal :=
  ext (x 0) (x 3) (y 0) (y 3) * ext (x 1) (x 4) (y 1) (y 4) * ext (x 2) (x 5) (y 2) (y 5)

/-- Intersection over union. -/
def iou (x y : Fin 6 → EReal) : EReal :=
  Ideal.div (common x y) (max (x 3 * x 4 * x 5 + y 3 * y 4 * y 5 - common x y) tiny)

/-- One image's candidates. -/
structure Cnd where
  sc : Fin 120 → EReal
  bx : Fin 120 → Fin 6 → EReal

variable (C : Cnd)

/-- The scores that stand, given which candidates are alive: −∞ for the others. -/
def Cnd.mask (al : Fin 120 → Prop) (l : Fin 120) : EReal := open Classical in if al l then C.sc l else ⊥

/-- The candidate a round takes. -/
@[irreducible] def Cnd.best (al : Fin 120 → Prop) : Fin 120 := topAt (C.mask al) 0

/-- Which candidates are alive before round `k`. -/
def Cnd.alive (C : Cnd) : ℕ → Fin 120 → Prop
  | 0 => fun l => thr < C.sc l
  | k + 1 => fun l => (C.alive k l ∧ iou (C.bx (C.best (C.alive k))) (C.bx l) ≤ iouThr) ∧ l ≠ C.best (C.alive k)

/-- The row of round `k`. -/
def Cnd.row (k : ℕ) (j : Fin 8) : EReal :=
  open Classical in
  if ⊥ < C.mask (C.alive k) (C.best (C.alive k)) then
    if h0 : j.val = 0 then 1
    else if h1 : j.val = 1 then C.sc (C.best (C.alive k))
    else C.bx (C.best (C.alive k)) ⟨j.val - 2, by omega⟩
  else -1

/-- The best lane is the least lane of the greatest standing score. -/
theorem Cnd.best_spec (al : Fin 120 → Prop) (l : Fin 120) :
    C.mask al l ≤ C.mask al (C.best al) ∧ (C.mask al l = C.mask al (C.best al) → C.best al ≤ l) := by
  unfold Cnd.best
  exact topAt_spec _ 0 l fun j h => absurd h (Fin.not_lt_zero _)

end Cert.Proof

end
-- ==== Proof.Cands.lean ====
/-
  The candidates of one image, as functions of the six arguments: the sixty best scores of either level in the order of
  a stable descending sort, and their boxes.
-/
module

public import proofs.«01_k».proof.Proof.Greedy
public import Idealize.ShloMosaic.Lib.Pointwise

@[expose] public section

noncomputable section

namespace Cert.Proof

open Idealize.ShloMosaic

/-- The sigmoid. -/
def sg (x : EReal) : EReal := Ideal.div 1 (1 + Ideal.exp (-x))

/-- The coordinates of position `p` of a cube of side `n`. -/
def crd (n p : ℕ) : ℕ → ℕ
  | 0 => p / (n * n)
  | 1 => p / n % n
  | _ => p % n

/-- The strides of the levels, and the factor of the sizes. -/
def two : EReal := Ideal.ofBits .f32 0x40000000#32
def four : EReal := Ideal.ofBits .f32 0x40800000#32

/-- Channel `d` of image `b` at position `p` of the first level. -/
def at1 {n : ℕ} (a : (⟨5, ![4, n, 48, 48, 48]⟩ : Shape).Idx → EReal) (b : Fin 4) (d : Fin n) (p : Fin 110592) : EReal :=
  a (ix5 b d ⟨p.val / 2304, by have := p.isLt; omega⟩ ⟨p.val / 48 % 48, by omega⟩ ⟨p.val % 48, by omega⟩)

/-- The same at the second level. -/
def at2 {n : ℕ} (a : (⟨5, ![4, n, 24, 24, 24]⟩ : Shape).Idx → EReal) (b : Fin 4) (d : Fin n) (p : Fin 13824) : EReal :=
  a (ix5 b d ⟨p.val / 576, by have := p.isLt; omega⟩ ⟨p.val / 24 % 24, by omega⟩ ⟨p.val % 24, by omega⟩)

/-- A centre and a size. -/
def centre (n p d : ℕ) (o s : EReal) : EReal := ((((crd n p d : ℕ) : ℝ) : EReal) + o) * s
def extent (a s : EReal) : EReal := two * a * s

/-- The arguments. -/
structure Args where
  c1 : (⟨5, ![4, 1, 48, 48, 48]⟩ : Shape).Idx → EReal
  s1 : (⟨5, ![4, 3, 48, 48, 48]⟩ : Shape).Idx → EReal
  o1 : (⟨5, ![4, 3, 48, 48, 48]⟩ : Shape).Idx → EReal
  c2 : (⟨5, ![4, 1, 24, 24, 24]⟩ : Shape).Idx → EReal
  s2 : (⟨5, ![4, 3, 24, 24, 24]⟩ : Shape).Idx → EReal
  o2 : (⟨5, ![4, 3, 24, 24, 24]⟩ : Shape).Idx → EReal

variable (A : Args)

/-- The scores of the levels. -/
def Args.sc1 (b : Fin 4) (p : Fin 110592) : EReal := sg (at1 A.c1 b 0 p)
def Args.sc2 (b : Fin 4) (p : Fin 13824) : EReal := sg (at2 A.c2 b 0 p)

/-- The boxes of the levels. -/
def Args.bx1 (b : Fin 4) (p : Fin 110592) (d : Fin 6) : EReal :=
  if h : d.val < 3 then centre 48 p.val d.val (at1 A.o1 b ⟨d.val, h⟩ p) two else extent (at1 A.s1 b ⟨d.val - 3, by omega⟩ p) two
def Args.bx2 (b : Fin 4) (p : Fin 13824) (d : Fin 6) : EReal :=
  if h : d.val < 3 then centre 24 p.val d.val (at2 A.o2 b ⟨d.val, h⟩ p) four else extent (at2 A.s2 b ⟨d.val - 3, by omega⟩ p) four

/-- The positions the candidates come from. -/
def Args.pos1 (b : Fin 4) (l : Fin 120) : Fin 110592 := topAt (A.sc1 b) ⟨l.val, by omega⟩
def Args.pos2 (b : Fin 4) (l : Fin 120) : Fin 13824 := topAt (A.sc2 b) ⟨l.val - 60, by omega⟩

/-- Image `b`'s candidates. -/
def Args.cnd (b : Fin 4) : Cnd where
  sc l := if l.val < 60 then A.sc1 b (A.pos1 b l) else A.sc2 b (A.pos2 b l)
  bx l := if l.val < 60 then A.bx1 b (A.pos1 b l) else A.bx2 b (A.pos2 b l)

/-- The detections: the first twenty rows are those the rounds take, the others hold −1. -/
def detOf (b : Fin 4) (r : Fin 120) (q : Fin 8) : EReal := if r.val < 20 then (A.cnd b).row r.val q else -1

end Cert.Proof

end
-- ==== Proof.RefTop.lean ====
/-
  The reference's `top_k` over the extended reals, and its batched gathers, read at an index.
-/
module

public import proofs.«01_k».proof.Proof.TopOrder
public import Idealize.ShloMosaic.Lib.Pointwise
public import Idealize.ShloMosaic.Lib.WordArith

@[expose] public section

set_option maxRecDepth 16384
set_option maxHeartbeats 2000000

noncomputable section

namespace Cert.Proof

open Idealize.ShloMosaic

/-- The reference's comparison of two extended reals. -/
theorem gt_eq (a b : EReal) : (FloatOps.cmpfTotal (F := Ideal) (φ := .f32) .gt a b == 1#1) = decide (b < a) := by
  show (BitVec.ofBool (decide (a > b)) == 1#1) = _
  by_cases h : b < a <;> simp [h]

/-- Place `l` of row `b` of a `top_k`: the value and the position that the stable descending sort puts there. -/
theorem topK_apply {N k : ℕ} (x : (⟨2, ![4, N]⟩ : Shape).Idx → EReal) (h : (⟨2, ![4, N]⟩ : Shape).Slices (fun _ => 0) ⟨2, ![4, k]⟩)
    (b : Fin 4) (l : Fin k) (hl : l.val < N) :
    (Host.topK (⟨2, ![4, k]⟩ : Shape) 1 (FloatOps.cmpfTotal (F := Ideal) (φ := .f32) .gt) x h).1 (ix2 b l)
      = x (ix2 b (topAt (fun p => x (ix2 b p)) ⟨l.val, hl⟩))
    ∧ (Host.topK (⟨2, ![4, k]⟩ : Shape) 1 (FloatOps.cmpfTotal (F := Ideal) (φ := .f32) .gt) x h).2 (ix2 b l)
      = BitVec.ofNat 32 (topAt (fun p => x (ix2 b p)) ⟨l.val, hl⟩).val := by
  have hal : ∀ q : Fin N, ∀ r : Fin N, Shape.Idx.along (s := ⟨2, ![4, N]⟩) (ix2 b r) 1 q = ix2 b q := fun q r => by
    funext a; refine Fin.ext ?_
    match a with
    | ⟨0, _⟩ => rfl
    | ⟨1, _⟩ => rfl
  have hsl : ∀ {α : Type} (y : (⟨2, ![4, N]⟩ : Shape).Idx → α),
      extractStridedSlice (⟨2, ![4, k]⟩ : Shape) (fun _ => 0) y h (ix2 b l) = y (ix2 b ⟨l.val, hl⟩) := fun y => by
    unfold extractStridedSlice
    refine congrArg y (funext fun a => Fin.ext ?_)
    match a with
    | ⟨0, _⟩ => exact Nat.zero_add _
    | ⟨1, _⟩ => exact Nat.zero_add _
  have hs : ∀ {β : Type} (y : (⟨2, ![4, N]⟩ : Shape).Idx → β),
      (Host.sort2 (⟨2, ![4, N]⟩ : Shape) 1 (fun l r => FloatOps.cmpfTotal (F := Ideal) (φ := .f32) .gt l.1 r.1) x y)
        = (fun j => x (j.along 1 (topAt (fun p => x (j.along 1 p)) (j 1))),
           fun j => y (j.along 1 (topAt (fun p => x (j.along 1 p)) (j 1)))) := fun y => by
    unfold Host.sort2 topAt
    rw [dif_pos (show 1 < (⟨2, ![4, N]⟩ : Shape).rank from Nat.one_lt_two)]
    simp only [gt_eq]
    rfl
  unfold Host.topK
  dsimp only
  rw [hs]
  dsimp only
  rw [hsl, hsl]
  refine ⟨?_, ?_⟩
  · refine (congrArg x (hal _ _)).trans ?_
    exact congrArg (fun f => x (ix2 b (topAt f ⟨l.val, hl⟩))) (funext fun p => congrArg x (hal _ _))
  · rw [dif_pos Nat.one_lt_two]
    refine (congrArg _ (hal _ _)).trans ?_
    exact congrArg (fun f => BitVec.ofNat 32 (topAt f ⟨l.val, hl⟩).val) (funext fun p => congrArg x (hal _ _))

/-- A batched gather of whole rows: of an operand `[4, N, C]` at row indices `[4, M, 1]`. -/
abbrev rowsDims (N C M : ℕ) (wf : GatherDims.WF ⟨3, ![4, N, C]⟩ ⟨3, ![4, M, 1]⟩ ⟨3, ![4, M, C]⟩ [2] [1] [0] [1] [0] 2 ![1, 1, C]) :
    GatherDims ⟨3, ![4, N, C]⟩ ⟨3, ![4, M, 1]⟩ ⟨3, ![4, M, C]⟩ where
  offsetDims := [2]
  collapsedSliceDims := [1]
  operandBatchingDims := [0]
  startIndicesBatchingDims := [0]
  startIndexMap := [1]
  indexVectorDim := 2
  sliceSizes := ![1, 1, C]
  wf := wf

/-- It reads the row its index names. -/
theorem gather_rows_apply {N C M : ℕ} (wf) {α : Type} (x : (⟨3, ![4, N, C]⟩ : Shape).Idx → α) (idx : IVec ⟨3, ![4, M, 1]⟩ 32)
    (b : Fin 4) (r : Fin M) (c : Fin C) (t : Fin N) (ht : t.val < 2147483648) (hidx : idx (ix3 b r 0) = BitVec.ofNat 32 t.val) :
    Host.gather (rowsDims N C M wf) x idx (ix3 b r c) = x (ix3 b t c) := by
  unfold Host.gather
  refine congrArg x (funext fun a => Fin.ext ?_)
  show (rowsDims N C M wf).start (ix3 b r c) idx a + (rowsDims N C M wf).batchCoord (ix3 b r c) a
      + (rowsDims N C M wf).offCoord (ix3 b r c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims N C M wf).startIndexMap from List.mem_singleton.mpr rfl)]
    have hsi : (rowsDims N C M wf).siIdx (ix3 b r c) ⟨List.idxOf (1 : Fin 3) (rowsDims N C M wf).startIndexMap,
        List.idxOf_lt_length_iff.2 (List.mem_singleton.mpr rfl)⟩ = ix3 b r 0 := by
      funext q; refine Fin.ext ?_
      match q with
      | ⟨0, _⟩ => rfl
      | ⟨1, _⟩ => rfl
      | ⟨2, _⟩ => rfl
    rw [hsi, hidx, WordArith.toInt_ofNat_small _ ht]
    show min t.val (N - 1) = t.val
    have := t.isLt
    omega
  · have hk : (rowsDims N C M wf).sKept = [2] := rfl
    rw [GatherDims.batchCoord_eq_zero _ _ _ (fun h => by simp at h)]
    unfold GatherDims.start
    rw [dif_neg (fun h => by simp at h)]
    unfold GatherDims.offCoord
    rw [dif_pos (show (2 : Fin 3) ∈ (rowsDims N C M wf).sKept from hk ▸ List.mem_singleton.mpr rfl)]
    simp only [Nat.zero_add, Nat.add_zero]
    rfl

/-- A batched gather of entries: of an operand `[4, N]` at indices `[4, 1, 1]`. -/
abbrev entryDims (N : ℕ) (wf : GatherDims.WF ⟨2, ![4, N]⟩ ⟨3, ![4, 1, 1]⟩ ⟨2, ![4, 1]⟩ [] [1] [0] [1] [0] 2 ![1, 1]) :
    GatherDims ⟨2, ![4, N]⟩ ⟨3, ![4, 1, 1]⟩ ⟨2, ![4, 1]⟩ where
  offsetDims := []
  collapsedSliceDims := [1]
  operandBatchingDims := [0]
  startIndicesBatchingDims := [0]
  startIndexMap := [1]
  indexVectorDim := 2
  sliceSizes := ![1, 1]
  wf := wf

/-- It reads the entry its index names. -/
theorem gather_entry_apply {N : ℕ} (wf) {α : Type} (x : (⟨2, ![4, N]⟩ : Shape).Idx → α) (idx : IVec ⟨3, ![4, 1, 1]⟩ 32)
    (b : Fin 4) (t : Fin N) (ht : t.val < 2147483648) (hidx : idx (ix3 b 0 0) = BitVec.ofNat 32 t.val) :
    Host.gather (entryDims N wf) x idx (ix2 b 0) = x (ix2 b t) := by
  unfold Host.gather
  refine congrArg x (funext fun a => Fin.ext ?_)
  show (entryDims N wf).start (ix2 b 0) idx a + (entryDims N wf).batchCoord (ix2 b 0) a + (entryDims N wf).offCoord (ix2 b 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (entryDims N wf).startIndexMap from List.mem_singleton.mpr rfl)]
    have hsi : (entryDims N wf).siIdx (ix2 b 0) ⟨List.idxOf (1 : Fin 2) (entryDims N wf).startIndexMap,
        List.idxOf_lt_length_iff.2 (List.mem_singleton.mpr rfl)⟩ = ix3 b 0 0 := by
      funext q; refine Fin.ext ?_
      match q with
      | ⟨0, _⟩ => rfl
      | ⟨1, _⟩ => rfl
      | ⟨2, _⟩ => rfl
    rw [hsi, hidx, WordArith.toInt_ofNat_small _ ht]
    show min t.val (N - 1) = t.val
    have := t.isLt
    omega

end Cert.Proof

end
-- ==== Proof.ExtractLoop.lean ====
/-
  The extraction loops of the kernel. Sixty rounds over the block of scores of one level: each finds the greatest score of
  every image and its position, writes −1 over it, and puts the two at the round's lane. The block before round `k` (`blk`)
  and the four carried vectors (`car`) are the recursions below, free of the memory the loop runs in.
-/
module

public import proofs.«01_k».proof.Proof.Gen.KernelIdeal.Frame
public import Idealize.ShloMosaic.Lib.Pipeline.Value
public import Idealize.ShloMosaic.Lib.Pointwise.Index

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen

variable {F : FTy → Type} [FloatOps F] [Named F]

/-- The four vectors a loop carries: the scores by lane, the positions by lane, the positions by sublane, and the positions'
    places in their rows by sublane. -/
abbrev Car (F : FTy → Type) := FVec F S4x1x128 .f32 × IVec S4x1x128 32 × IVec S4x128x1 32 × IVec S4x128x1 32

/-- Reading a whole buffer after a write over all of it gives what was written. -/
theorem read_writes_whole {sg : RefSig} {κ : Kind} {sp : Space} {s : Shape} {e : EltTy} (v : View sg κ sp s e)
    (f : BufTy.Contents (Elt F) v.ty) (off : Fin s.rank → ℕ) (hoff : off = fun _ => 0) (inb : ∀ a, off a + s.size a ≤ s.size a)
    (w : Vec F s e) (L : List (View.Piece (Elt F) s e)) :
    v.read (Elt F) (v.writes (Elt F) f (⟨Rect.unit (s := s) off s.size inb, w⟩ :: L)) = w := by
  subst hoff
  rw [View.read_writes_eq_canon]
  · funext y
    have hy : y = (Rect.unit (s := s) (fun _ => 0) s.size inb).emb y := by
      funext a
      apply Fin.ext
      rw [Rect.emb_apply, Rect.off_unit, Rect.stride_unit, Nat.one_mul, Nat.zero_add]
    conv_lhs => rw [hy]
    exact View.canon_cons_emb (Val := Elt F) (Rect.unit (s := s) (fun _ => 0) s.size inb) w L y
  · intro y
    refine ⟨_, List.mem_cons_self, (Rect.mem_set_unit (inb := inb)).mpr fun a => ⟨Nat.zero_le _, ?_⟩⟩
    rw [Nat.zero_add]
    exact (y a).isLt

/-- Reading through the whole rectangle reads the buffer. -/
theorem readAt_whole {sg : RefSig} {κ : Kind} {sp : Space} {s : Shape} {e : EltTy} (v : View sg κ sp s e)
    (f : BufTy.Contents (Elt F) v.ty) (off : Fin s.rank → ℕ) (hoff : off = fun _ => 0) (inb : ∀ a, off a + s.size a ≤ s.size a) :
    v.readAt (Elt F) (Rect.unit (s := s) off s.size inb).toLoadRect f = v.read (Elt F) f := by
  subst hoff
  rw [View.readAt_eq_ld]
  funext y
  refine congrArg (v.read (Elt F) f) ?_
  funext a
  apply Fin.ext
  exact (Nat.zero_add _).trans (Nat.one_mul _)

/-- The block of the first level before round `k`. -/
def blk1 (v32 : IVec S4x864x128 32) (X : Vec F S4x864x128 .f32) : ℕ → Vec F S4x864x128 .f32
  | 0 => X
  | k + 1 => k0_pay5 v32 (blk1 v32 X k)

/-- What one round of the first level carries on. -/
def car1Next (v32 : IVec S4x864x128 32) (v33 : IVec S4x128x1 32) (v34 : IVec S4x1x128 32) (k : Fin k0_t1_loop.trips)
    (x : Vec F S4x864x128 .f32) (acc : Car F) : Car F :=
  (k0_pay8 v34 0#32 1#32 k acc.1 x, k0_pay9 v32 v34 0#32 1#32 k acc.2.1 x, k0_pay10 v32 v33 0#32 1#32 k acc.2.2.1 x,
    k0_pay86 acc.2.2.2 (k0_pay7 v33 0#32 1#32 k) 128#32 (k0_pay11 v32 x) (k0_pay12 v32 x) 0#32)

/-- The carried vectors of the first level before round `k`. -/
def car1 (v32 : IVec S4x864x128 32) (v33 : IVec S4x128x1 32) (v34 : IVec S4x1x128 32) (X : Vec F S4x864x128 .f32) (init : Car F) :
    ℕ → Car F
  | 0 => init
  | k + 1 => if h : k < k0_t1_loop.trips then car1Next v32 v33 v34 ⟨k, h⟩ (blk1 v32 X k) (car1 v32 v33 v34 X init k)
      else car1 v32 v33 v34 X init k

/-- The block of the second level before round `k`. -/
def blk2 (v32 : IVec S4x108x128 32) (X : Vec F S4x108x128 .f32) : ℕ → Vec F S4x108x128 .f32
  | 0 => X
  | k + 1 => k0_pay15 v32 (blk2 v32 X k)

/-- What one round of the second level carries on. -/
def car2Next (v32 : IVec S4x108x128 32) (v33 : IVec S4x128x1 32) (v34 : IVec S4x1x128 32) (k : Fin k0_t2_loop.trips)
    (x : Vec F S4x108x128 .f32) (acc : Car F) : Car F :=
  (k0_pay18 v34 0#32 1#32 k acc.1 x, k0_pay19 v32 v34 0#32 1#32 k acc.2.1 x, k0_pay20 v32 v33 0#32 1#32 k acc.2.2.1 x,
    k0_pay88 acc.2.2.2 (k0_pay17 v33 0#32 1#32 k) 128#32 (k0_pay21 v32 x) (k0_pay22 v32 x) 0#32)

/-- The carried vectors of the second level before round `k`. -/
def car2 (v32 : IVec S4x108x128 32) (v33 : IVec S4x128x1 32) (v34 : IVec S4x1x128 32) (X : Vec F S4x108x128 .f32) (init : Car F) :
    ℕ → Car F
  | 0 => init
  | k + 1 => if h : k < k0_t2_loop.trips then car2Next v32 v33 v34 ⟨k, h⟩ (blk2 v32 X k) (car2 v32 v33 v34 X init k)
      else car2 v32 v33 v34 X init k

section Loops

variable (𝒱 : Variants) (c : Dev nD) (bd : Option 𝒱.V)
  (arg0 : Memref sig .tc .vmem S4x864x128 .f32) (harg0 : arg0.IsWhole)
  (arg1 : Memref sig .tc .vmem S4x3x864x128 .f32) (harg1 : arg1.IsWhole)
  (arg2 : Memref sig .tc .vmem S4x3x864x128 .f32) (harg2 : arg2.IsWhole)
  (arg3 : Memref sig .tc .vmem S4x108x128 .f32) (harg3 : arg3.IsWhole)
  (arg4 : Memref sig .tc .vmem S4x3x108x128 .f32) (harg4 : arg4.IsWhole)
  (arg5 : Memref sig .tc .vmem S4x3x108x128 .f32) (harg5 : arg5.IsWhole)
  (arg6 : Memref sig .tc .vmem S4x120x8 .f32) (harg6 : arg6.IsWhole)
  (arg7 : Memref sig .tc .vmem S4x864x128 .f32) (harg7 : arg7.IsWhole)
  (arg8 : Memref sig .tc .vmem S4x108x128 .f32) (harg8 : arg8.IsWhole)
  (v24 : FVec F S4x1x128 .f32) (v25 : IVec S4x1x128 32) (v26 v27 : IVec S4x128x1 32)

/-- The loop over level 1 is that recursion: its carried vectors, and the block it leaves. -/
theorem st1_eq (v32 : IVec S4x864x128 32) (v33 : IVec S4x128x1 32) (v34 : IVec S4x1x128 32)
    (G : BufTy.Contents (Elt F) arg7.view.ty) (init : Car F) (X : Vec F S4x864x128 .f32) (hX : arg7.view.read (Elt F) G = X) :
    ∀ k, k ≤ k0_t1_loop.trips →
    (st_k0_t1 (F := F) 𝒱 c bd arg0 harg0 arg1 harg1 arg2 harg2 arg3 harg3 arg4 harg4 arg5 harg5 arg6 harg6 arg7 harg7
      arg8 harg8 v24 v25 v26 v27 v32 v33 v34 G init k).1 = car1 v32 v33 v34 X init k
    ∧ arg7.view.read (Elt F) (arg7.view.writes (Elt F) G (st_k0_t1 (F := F) 𝒱 c bd arg0 harg0 arg1 harg1 arg2 harg2 arg3 harg3 arg4 harg4 arg5 harg5 arg6 harg6 arg7 harg7
      arg8 harg8 v24 v25 v26 v27 v32 v33 v34 G init k).2) = blk1 v32 X k
  | 0, _ => ⟨rfl, hX⟩
  | k + 1, hk => by
    obtain ⟨ih1, ih2⟩ := st1_eq v32 v33 v34 G init X hX k (Nat.le_of_succ_le hk)
    rw [st_k0_t1_succ (F := F) 𝒱 c bd arg0 harg0 arg1 harg1 arg2 harg2 arg3 harg3 arg4 harg4 arg5 harg5 arg6 harg6 arg7 harg7
      arg8 harg8 v24 v25 v26 v27 v32 v33 v34 G init ⟨k, hk⟩]
    dsimp only
    rw [ih1, car1, blk1, dif_pos (show k < k0_t1_loop.trips from hk)]
    have hz : (![0, 0, 0] : Fin 3 → ℕ) = fun _ => 0 := by funext a; fin_cases a <;> rfl
    generalize hw : arg7.view.writes (Elt F) G (st_k0_t1 (F := F) 𝒱 c bd arg0 harg0 arg1 harg1 arg2 harg2 arg3 harg3 arg4 harg4 arg5 harg5 arg6 harg6 arg7 harg7
      arg8 harg8 v24 v25 v26 v27 v32 v33 v34 G init k).2 = f at ih2 ⊢
    unfold tripR_k0_t1 tripL_k0_t1 trip_k0_t1
    dsimp only
    have e := (readAt_whole (F := F) arg7.view f ![0, 0, 0] hz inb_S4x864x128_S4x864x128_0_0_0).trans ih2
    refine ⟨congrArg (fun x => car1Next v32 v33 v34 ⟨k, hk⟩ x (car1 v32 v33 v34 X init k)) e, ?_⟩
    exact (read_writes_whole (F := F) arg7.view G ![0, 0, 0] hz inb_S4x864x128_S4x864x128_0_0_0 _ _).trans (congrArg (k0_pay5 v32) e)

/-- The loop over level 2 is that recursion: its carried vectors, and the block it leaves. -/
theorem st2_eq (v32 : IVec S4x864x128 32) (v33 : IVec S4x128x1 32) (v34 : IVec S4x1x128 32)
    (v42 : IVec S4x128x1 32) (v43 : IVec S4x1x128 32)
    (G : BufTy.Contents (Elt F) arg8.view.ty) (init : Car F) (X : Vec F S4x108x128 .f32) (hX : arg8.view.read (Elt F) G = X) :
    ∀ k, k ≤ k0_t2_loop.trips →
    (st_k0_t2 (F := F) 𝒱 c bd arg0 harg0 arg1 harg1 arg2 harg2 arg3 harg3 arg4 harg4 arg5 harg5 arg6 harg6 arg7 harg7
      arg8 harg8 v24 v25 v26 v27 v32 v33 v34 v42 v43 G init k).1 = car2 k0_pay87 v42 v43 X init k
    ∧ arg8.view.read (Elt F) (arg8.view.writes (Elt F) G (st_k0_t2 (F := F) 𝒱 c bd arg0 harg0 arg1 harg1 arg2 harg2 arg3 harg3 arg4 harg4 arg5 harg5 arg6 harg6 arg7 harg7
      arg8 harg8 v24 v25 v26 v27 v32 v33 v34 v42 v43 G init k).2) = blk2 k0_pay87 X k
  | 0, _ => ⟨rfl, hX⟩
  | k + 1, hk => by
    obtain ⟨ih1, ih2⟩ := st2_eq v32 v33 v34 v42 v43 G init X hX k (Nat.le_of_succ_le hk)
    rw [st_k0_t2_succ (F := F) 𝒱 c bd arg0 harg0 arg1 harg1 arg2 harg2 arg3 harg3 arg4 harg4 arg5 harg5 arg6 harg6 arg7 harg7
      arg8 harg8 v24 v25 v26 v27 v32 v33 v34 v42 v43 G init ⟨k, hk⟩]
    dsimp only
    rw [ih1, car2, blk2, dif_pos (show k < k0_t2_loop.trips from hk)]
    have hz : (![0, 0, 0] : Fin 3 → ℕ) = fun _ => 0 := by funext a; fin_cases a <;> rfl
    generalize hw : arg8.view.writes (Elt F) G (st_k0_t2 (F := F) 𝒱 c bd arg0 harg0 arg1 harg1 arg2 harg2 arg3 harg3 arg4 harg4 arg5 harg5 arg6 harg6 arg7 harg7
      arg8 harg8 v24 v25 v26 v27 v32 v33 v34 v42 v43 G init k).2 = f at ih2 ⊢
    unfold tripR_k0_t2 tripL_k0_t2 trip_k0_t2
    dsimp only
    have e := (readAt_whole (F := F) arg8.view f ![0, 0, 0] hz inb_S4x108x128_S4x108x128_0_0_0).trans ih2
    refine ⟨congrArg (fun x => car2Next k0_pay87 v42 v43 ⟨k, hk⟩ x (car2 k0_pay87 v42 v43 X init k)) e, ?_⟩
    exact (read_writes_whole (F := F) arg8.view G ![0, 0, 0] hz inb_S4x108x128_S4x108x128_0_0_0 _ _).trans (congrArg (k0_pay15 k0_pay87) e)

end Loops

end Cert.Proof

end
-- ==== Proof.ExtractValue.lean ====
/-
  What the extraction loops leave, at extended reals: at lane `l` of the first level's sixty lanes the score and the position
  that a stable descending sort of the image's scores puts at `l`.
-/
module

public import proofs.«01_k».proof.Proof.ExtractLoop
public import proofs.«01_k».proof.Proof.TopRounds

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen

theorem bits_bot : Ideal.ofBits .f32 4286578688#32 = ⊥ := by simp [Ideal.ofBits, Ideal.ieee]

theorem bits_neg_one : Ideal.ofBits .f32 3212836864#32 = -1 := by
  simp [Ideal.ofBits, Ideal.ieee]
  rw [← EReal.coe_mul, show ((8388608 : ℝ) * (2 ^ 23)⁻¹) = 1 by norm_num]
  rfl

/-- Two numbers' words are equal where the numbers are. -/
theorem select_word_eq {α : Type} (m n : ℕ) (hm : m < 4294967296) (hn : n < 4294967296) (x y : α) :
    Scalar.select (IntOp.cmpi .eq (BitVec.ofNat 32 m) (BitVec.ofNat 32 n)) x y = if m = n then x else y := by
  have h : (BitVec.ofNat 32 m = BitVec.ofNat 32 n) ↔ m = n := by
    rw [← BitVec.toNat_inj, BitVec.toNat_ofNat, BitVec.toNat_ofNat, Nat.mod_eq_of_lt hm, Nat.mod_eq_of_lt hn]
  by_cases e : m = n
  · subst e; simp [IntOp.cmpi, Scalar.select]
  · have hb : (BitVec.ofNat 32 m == BitVec.ofNat 32 n) = false := beq_eq_false_iff_ne.mpr fun q => e (h.mp q)
    simp [IntOp.cmpi, Scalar.select, e, hb]

/-- The number of an entry in its image, as a word. -/
theorem flat_word (i j : ℕ) : IntOp.addi (IntOp.muli (BitVec.ofNat 32 i) 128#32) (BitVec.ofNat 32 j) = BitVec.ofNat 32 (i * 128 + j) := by
  rw [BitVec.ofNat_add, BitVec.ofNat_mul]; rfl

theorem pay85_apply (b : Fin 4) (i : Fin 864) (j : Fin 128) : k0_pay85 (ix3 b i j) = BitVec.ofNat 32 (i.val * 128 + j.val) := by
  unfold k0_pay85
  rw [← flat_word]
  show IntOp.addi (IntOp.muli (iota .tc S4x864x128 32 [1] iota_S4x864x128_d1_w32 (ix3 b i j)) 128#32)
    (iota .tc S4x864x128 32 [2] iota_S4x864x128_d2_w32 (ix3 b i j)) = _
  rw [iota_single_apply, iota_single_apply]
  rfl

/-- The scores of image `b`, in the order of their numbers. -/
def flat1 (X : Vec Ideal S4x864x128 .f32) (b : Fin 4) (p : Fin 110592) : EReal :=
  X (ix3 b ⟨p.val / 128, by have := p.isLt; omega⟩ ⟨p.val % 128, by omega⟩)

/-- A round of the first level: the greatest score, its position, and the block the round leaves. -/
theorem round1 (X x : Vec Ideal S4x864x128 .f32) (b : Fin 4) (h0 : ∀ p, 0 ≤ flat1 X b p) (r : Fin 110592)
    (hx : ∀ i j, x (ix3 b i j) = taken (flat1 X b) r.val ⟨i.val * 128 + j.val, flat_lt rfl i j⟩) :
    k0_pay3 (F := Ideal) x (ix3 b 0 0) = flat1 X b (topAt (flat1 X b) r)
    ∧ k0_pay4 (F := Ideal) k0_pay85 x (ix3 b 0 0) = BitVec.ofNat 32 (topAt (flat1 X b) r).val
    ∧ ∀ i j, k0_pay5 (F := Ideal) k0_pay85 x (ix3 b i j)
        = taken (flat1 X b) (r.val + 1) ⟨i.val * 128 + j.val, flat_lt rfl i j⟩ := by
  have h3 : k0_pay3 (F := Ideal) x (ix3 b 0 0) = flat1 X b (topAt (flat1 X b) r) := by
    unfold k0_pay3
    simp only [pointwise, bits_bot, hx]
    exact round_max (R := 864) (N := 110592) rfl (flat1 X b) h0 r
  have h4 : k0_pay4 (F := Ideal) k0_pay85 x (ix3 b 0 0) = BitVec.ofNat 32 (topAt (flat1 X b) r).val := by
    unfold k0_pay4
    simp only [pointwise, Nat.reduceEqDiff, ↓reduceDIte, pay85_apply, hx]
    have e : ∀ i j : Fin 1, k0_pay3 (F := Ideal) x (ix3 b i j) = flat1 X b (topAt (flat1 X b) r) := fun i j => by
      rw [Subsingleton.elim i 0, Subsingleton.elim j 0, h3]
    simp only [e]
    exact round_idx (R := 864) (N := 110592) rfl (flat1 X b) h0 (by decide) r
  refine ⟨h3, h4, fun i j => ?_⟩
  unfold k0_pay5
  simp only [pointwise, Nat.reduceEqDiff, ↓reduceDIte, pay85_apply, hx]
  have ht := (topAt (flat1 X b) r).isLt
  have := flat_lt (N := 110592) rfl i j
  rw [h4, select_word_eq _ _ (by omega) (by omega), bits_neg_one, taken_succ]
  simp only [Fin.ext_iff]

end Cert.Proof

end
-- ==== Proof.ExtractLanes.lean ====
/-
  What the extraction loops leave, at extended reals, lane by lane: the score, the position and the position's lane that a
  stable descending sort of each image's scores gives, the first level in lanes 0 to 59 and the second in lanes 60 to 119.
-/
module

public import proofs.«01_k».proof.Proof.ExtractValue
public import Idealize.ShloMosaic.Lib.Routing.Words
public import Idealize.ShloMosaic.Lib.WordArith

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen

/-- The word a trip's number is. -/
theorem iv_word (k : ℕ) : Scf.iv 0#32 1#32 k = BitVec.ofNat 32 k := by simp [Scf.iv]

/-- A small number's word is not negative. -/
theorem slt_zero_word (m : ℕ) (hm : m < 2147483648) : IntOp.cmpi .slt (BitVec.ofNat 32 m) 0#32 = 0#1 := by
  have h : (BitVec.ofNat 32 m).slt 0#32 = false := by
    rw [BitVec.slt, decide_eq_false_iff_not, WordArith.toInt_ofNat_small m (by omega)]
    simp
  simp [IntOp.cmpi, h]

/-- The remainder by 128, corrected for the divisor's sign, of a position. -/
theorem mod128_word (t : ℕ) (ht : t < 2147483648) (z : BitVec 1) :
    Scalar.select (IntOp.andi (IntOp.xori (IntOp.cmpi .slt (IntOp.remsi .vector (BitVec.ofNat 32 t) 128#32) 0#32) (Scalar.cmpi .slt 128#32 0#32)) z)
      (IntOp.addi (IntOp.remsi .vector (BitVec.ofNat 32 t) 128#32) 128#32) (IntOp.remsi .vector (BitVec.ofNat 32 t) 128#32)
      = BitVec.ofNat 32 (t % 128) := by
  rw [Routing.remsi_word .vector (a := t) (b := 128) (by omega) (by decide) (by decide), slt_zero_word _ (by omega),
    show Scalar.cmpi .slt 128#32 0#32 = 0#1 from by decide, show IntOp.xori 0#1 0#1 = 0#1 from by decide,
    show IntOp.andi 0#1 z = 0#1 from by unfold IntOp.andi; simp]
  rfl

theorem pay87_apply (b : Fin 4) (i : Fin 108) (j : Fin 128) : k0_pay87 (ix3 b i j) = BitVec.ofNat 32 (i.val * 128 + j.val) := by
  unfold k0_pay87
  rw [← flat_word]
  show IntOp.addi (IntOp.muli (iota .tc S4x108x128 32 [1] iota_S4x108x128_d1_w32 (ix3 b i j)) 128#32)
    (iota .tc S4x108x128 32 [2] iota_S4x108x128_d2_w32 (ix3 b i j)) = _
  rw [iota_single_apply, iota_single_apply]
  rfl

/-- The second level's scores of image `b`, in the order of their numbers. -/
def flat2 (X : Vec Ideal S4x108x128 .f32) (b : Fin 4) (p : Fin 13824) : EReal :=
  X (ix3 b ⟨p.val / 128, by have := p.isLt; omega⟩ ⟨p.val % 128, by omega⟩)

/-- A round of the second level: the greatest score, its position, and the block the round leaves. -/
theorem round2 (X x : Vec Ideal S4x108x128 .f32) (b : Fin 4) (h0 : ∀ p, 0 ≤ flat2 X b p) (r : Fin 13824)
    (hx : ∀ i j, x (ix3 b i j) = taken (flat2 X b) r.val ⟨i.val * 128 + j.val, flat_lt rfl i j⟩) :
    k0_pay13 (F := Ideal) x (ix3 b 0 0) = flat2 X b (topAt (flat2 X b) r)
    ∧ k0_pay14 (F := Ideal) k0_pay87 x (ix3 b 0 0) = BitVec.ofNat 32 (topAt (flat2 X b) r).val
    ∧ ∀ i j, k0_pay15 (F := Ideal) k0_pay87 x (ix3 b i j)
        = taken (flat2 X b) (r.val + 1) ⟨i.val * 128 + j.val, flat_lt rfl i j⟩ := by
  have h3 : k0_pay13 (F := Ideal) x (ix3 b 0 0) = flat2 X b (topAt (flat2 X b) r) := by
    unfold k0_pay13
    simp only [pointwise, bits_bot, hx]
    exact round_max (R := 108) (N := 13824) rfl (flat2 X b) h0 r
  have h4 : k0_pay14 (F := Ideal) k0_pay87 x (ix3 b 0 0) = BitVec.ofNat 32 (topAt (flat2 X b) r).val := by
    unfold k0_pay14
    simp only [pointwise, Nat.reduceEqDiff, ↓reduceDIte, pay87_apply, hx]
    have e : ∀ i j : Fin 1, k0_pay13 (F := Ideal) x (ix3 b i j) = flat2 X b (topAt (flat2 X b) r) := fun i j => by
      rw [Subsingleton.elim i 0, Subsingleton.elim j 0, h3]
    simp only [e]
    exact round_idx (R := 108) (N := 13824) rfl (flat2 X b) h0 (by decide) r
  refine ⟨h3, h4, fun i j => ?_⟩
  unfold k0_pay15
  simp only [pointwise, Nat.reduceEqDiff, ↓reduceDIte, pay87_apply, hx]
  have ht := (topAt (flat2 X b) r).isLt
  have := flat_lt (N := 13824) rfl i j
  rw [h4, select_word_eq _ _ (by omega) (by omega), bits_neg_one, taken_succ]
  simp only [Fin.ext_iff]

/-- The position of the score that image `b` puts in lane `l` (level 1). -/
def T1 (X : Vec Ideal S4x864x128 .f32) (b : Fin 4) (l : Fin 128) : Fin 110592 :=
  topAt (flat1 X b) ⟨l.val, by have := l.isLt; omega⟩

/-- What round `k` of level 1 carries on, at a lane. -/
theorem car1Next_apply (v33 : IVec S4x128x1 32) (v34 : IVec S4x1x128 32)
    (h33 : ∀ b l, v33 (ix3 b l 0) = BitVec.ofNat 32 l.val) (h34 : ∀ b l, v34 (ix3 b 0 l) = BitVec.ofNat 32 l.val)
    (k : Fin k0_t1_loop.trips) (hk : k.val < 60)
    (x : Vec Ideal S4x864x128 .f32) (acc : Car Ideal) (b : Fin 4) (l : Fin 128) (t : ℕ) (ht : t < 2147483648)
    (h : k0_pay4 (F := Ideal) k0_pay85 x (ix3 b 0 0) = BitVec.ofNat 32 t) :
    (car1Next k0_pay85 v33 v34 k x acc).1 (ix3 b 0 l)
        = (if l.val = 0 + k.val then k0_pay3 (F := Ideal) x (ix3 b 0 0) else acc.1 (ix3 b 0 l))
    ∧ (car1Next k0_pay85 v33 v34 k x acc).2.1 (ix3 b 0 l)
        = (if l.val = 0 + k.val then BitVec.ofNat 32 t else acc.2.1 (ix3 b 0 l))
    ∧ (car1Next k0_pay85 v33 v34 k x acc).2.2.1 (ix3 b l 0)
        = (if l.val = 0 + k.val then BitVec.ofNat 32 t else acc.2.2.1 (ix3 b l 0))
    ∧ (car1Next k0_pay85 v33 v34 k x acc).2.2.2 (ix3 b l 0)
        = (if l.val = 0 + k.val then BitVec.ofNat 32 (t % 128) else acc.2.2.2 (ix3 b l 0)) := by
  have hl := l.isLt
  have hw : Scalar.addi 0#32 (Scf.iv 0#32 1#32 k) = BitVec.ofNat 32 (0 + k.val) := by
    rw [iv_word, BitVec.ofNat_add]; rfl
  have e1 : ∀ i j : Fin 1, k0_pay3 (F := Ideal) x (ix3 b i j) = k0_pay3 (F := Ideal) x (ix3 b 0 0) := fun i j => by
    rw [Subsingleton.elim i 0, Subsingleton.elim j 0]
  have e2 : ∀ i j : Fin 1, k0_pay4 (F := Ideal) k0_pay85 x (ix3 b i j) = BitVec.ofNat 32 t := fun i j => by
    rw [Subsingleton.elim i 0, Subsingleton.elim j 0, h]
  have s : ∀ {α : Type} (u v : α), Scalar.select (IntOp.cmpi .eq (BitVec.ofNat 32 l.val) (BitVec.ofNat 32 (0 + k.val))) u v
      = if l.val = 0 + k.val then u else v := fun u v => select_word_eq _ _ (by omega) (by omega) u v
  have hc : Scalar.select (Scalar.cmpi .eq 128#32 0#32) 1#32 128#32 = 128#32 := by decide
  have h11 : ∀ i j : Fin 1, k0_pay11 (F := Ideal) k0_pay85 x (ix3 b i j) = IntOp.remsi .vector (BitVec.ofNat 32 t) 128#32 := fun i j => by
    unfold k0_pay11
    simp only [pointwise, e2]
    rw [hc]
  unfold car1Next
  refine ⟨?_, ?_, ?_, ?_⟩
  · dsimp only
    unfold k0_pay8 k0_pay6
    simp only [pointwise, Nat.reduceEqDiff, ↓reduceDIte, h34, hw, e1, s]
  · dsimp only
    unfold k0_pay9 k0_pay6
    simp only [pointwise, Nat.reduceEqDiff, ↓reduceDIte, h34, hw, e2, s]
  · dsimp only
    unfold k0_pay10 k0_pay7
    simp only [pointwise, Nat.reduceEqDiff, ↓reduceDIte, h33, hw, e2, s]
  · dsimp only
    unfold k0_pay86 k0_pay7
    simp only [pointwise, Nat.reduceEqDiff, ↓reduceDIte, h33, hw, h11, s]
    rw [mod128_word t ht]

/-- The block of level 1 before round `k`: the entries taken so far hold −1. -/
theorem blk1_apply (X : Vec Ideal S4x864x128 .f32) (b : Fin 4) (h0 : ∀ p, 0 ≤ flat1 X b p) :
    ∀ k, k ≤ 60 → ∀ i j, blk1 k0_pay85 X k (ix3 b i j) = taken (flat1 X b) k ⟨i.val * 128 + j.val, flat_lt rfl i j⟩
  | 0, _, i, j => by
    rw [taken_zero]
    show X _ = X _
    congr 1
    refine congrArg₂ (fun i j => ix3 b i j) (Fin.ext ?_) (Fin.ext ?_)
    · show i.val = (i.val * 128 + j.val) / 128
      have := j.isLt; omega
    · show j.val = (i.val * 128 + j.val) % 128
      have := j.isLt; omega
  | k + 1, hk, i, j =>
    (round1 X (blk1 k0_pay85 X k) b h0 ⟨k, by omega⟩ (blk1_apply X b h0 k (Nat.le_of_succ_le hk))).2.2 i j

/-- The carried vectors of level 1 before round `k`, lane by lane. -/
theorem car1_apply (v33 : IVec S4x128x1 32) (v34 : IVec S4x1x128 32)
    (h33 : ∀ b l, v33 (ix3 b l 0) = BitVec.ofNat 32 l.val) (h34 : ∀ b l, v34 (ix3 b 0 l) = BitVec.ofNat 32 l.val)
    (X : Vec Ideal S4x864x128 .f32) (init : Car Ideal) (b : Fin 4) (h0 : ∀ p, 0 ≤ flat1 X b p) (l : Fin 128) :
    ∀ k, k ≤ 60 →
    (car1 k0_pay85 v33 v34 X init k).1 (ix3 b 0 l)
        = (if 0 ≤ l.val ∧ l.val < 0 + k then flat1 X b (T1 X b l) else init.1 (ix3 b 0 l))
    ∧ (car1 k0_pay85 v33 v34 X init k).2.1 (ix3 b 0 l)
        = (if 0 ≤ l.val ∧ l.val < 0 + k then BitVec.ofNat 32 (T1 X b l).val else init.2.1 (ix3 b 0 l))
    ∧ (car1 k0_pay85 v33 v34 X init k).2.2.1 (ix3 b l 0)
        = (if 0 ≤ l.val ∧ l.val < 0 + k then BitVec.ofNat 32 (T1 X b l).val else init.2.2.1 (ix3 b l 0))
    ∧ (car1 k0_pay85 v33 v34 X init k).2.2.2 (ix3 b l 0)
        = (if 0 ≤ l.val ∧ l.val < 0 + k then BitVec.ofNat 32 ((T1 X b l).val % 128) else init.2.2.2 (ix3 b l 0))
  | 0, _ => by
    have hn : ¬(0 ≤ l.val ∧ l.val < 0 + 0) := by omega
    simp only [if_neg hn]
    exact ⟨rfl, rfl, rfl, rfl⟩
  | k + 1, hk => by
    obtain ⟨i1, i2, i3, i4⟩ := car1_apply v33 v34 h33 h34 X init b h0 l k (Nat.le_of_succ_le hk)
    have ht : k < k0_t1_loop.trips := lt_of_lt_of_le (Nat.lt_of_succ_le hk) (by decide)
    obtain ⟨r1, r2, _⟩ := round1 X (blk1 k0_pay85 X k) b h0 ⟨k, by omega⟩ (blk1_apply X b h0 k (Nat.le_of_succ_le hk))
    have hT := (topAt (flat1 X b) ⟨k, by omega⟩).isLt
    obtain ⟨s1, s2, s3, s4⟩ := car1Next_apply v33 v34 h33 h34 ⟨k, ht⟩ (Nat.lt_of_succ_le hk) (blk1 k0_pay85 X k)
      (car1 k0_pay85 v33 v34 X init k) b l _ (by omega) r2
    rw [car1, dif_pos ht, s1, s2, s3, s4, r1, i1, i2, i3, i4]
    by_cases e : l.val = 0 + k
    · have hT' : T1 X b l = topAt (flat1 X b) ⟨k, by omega⟩ := congrArg (topAt (flat1 X b)) (Fin.ext (by show l.val = k; omega))
      have hp : 0 ≤ l.val ∧ l.val < 0 + (k + 1) := by omega
      simp only [if_pos e, if_pos hp, hT', and_self]
    · have hq : (0 ≤ l.val ∧ l.val < 0 + (k + 1)) ↔ (0 ≤ l.val ∧ l.val < 0 + k) := by omega
      simp only [if_neg e, hq, and_self]

/-- The position of the score that image `b` puts in lane `l` (level 2). -/
def T2 (X : Vec Ideal S4x108x128 .f32) (b : Fin 4) (l : Fin 128) : Fin 13824 :=
  topAt (flat2 X b) ⟨l.val - 60, by have := l.isLt; omega⟩

/-- What round `k` of level 2 carries on, at a lane. -/
theorem car2Next_apply (v33 : IVec S4x128x1 32) (v34 : IVec S4x1x128 32)
    (h33 : ∀ b l, v33 (ix3 b l 0) = BitVec.ofNat 32 l.val) (h34 : ∀ b l, v34 (ix3 b 0 l) = BitVec.ofNat 32 l.val)
    (k : Fin k0_t2_loop.trips) (hk : k.val < 60)
    (x : Vec Ideal S4x108x128 .f32) (acc : Car Ideal) (b : Fin 4) (l : Fin 128) (t : ℕ) (ht : t < 2147483648)
    (h : k0_pay14 (F := Ideal) k0_pay87 x (ix3 b 0 0) = BitVec.ofNat 32 t) :
    (car2Next k0_pay87 v33 v34 k x acc).1 (ix3 b 0 l)
        = (if l.val = 60 + k.val then k0_pay13 (F := Ideal) x (ix3 b 0 0) else acc.1 (ix3 b 0 l))
    ∧ (car2Next k0_pay87 v33 v34 k x acc).2.1 (ix3 b 0 l)
        = (if l.val = 60 + k.val then BitVec.ofNat 32 t else acc.2.1 (ix3 b 0 l))
    ∧ (car2Next k0_pay87 v33 v34 k x acc).2.2.1 (ix3 b l 0)
        = (if l.val = 60 + k.val then BitVec.ofNat 32 t else acc.2.2.1 (ix3 b l 0))
    ∧ (car2Next k0_pay87 v33 v34 k x acc).2.2.2 (ix3 b l 0)
        = (if l.val = 60 + k.val then BitVec.ofNat 32 (t % 128) else acc.2.2.2 (ix3 b l 0)) := by
  have hl := l.isLt
  have hw : Scalar.addi 60#32 (Scf.iv 0#32 1#32 k) = BitVec.ofNat 32 (60 + k.val) := by
    rw [iv_word, BitVec.ofNat_add]; rfl
  have e1 : ∀ i j : Fin 1, k0_pay13 (F := Ideal) x (ix3 b i j) = k0_pay13 (F := Ideal) x (ix3 b 0 0) := fun i j => by
    rw [Subsingleton.elim i 0, Subsingleton.elim j 0]
  have e2 : ∀ i j : Fin 1, k0_pay14 (F := Ideal) k0_pay87 x (ix3 b i j) = BitVec.ofNat 32 t := fun i j => by
    rw [Subsingleton.elim i 0, Subsingleton.elim j 0, h]
  have s : ∀ {α : Type} (u v : α), Scalar.select (IntOp.cmpi .eq (BitVec.ofNat 32 l.val) (BitVec.ofNat 32 (60 + k.val))) u v
      = if l.val = 60 + k.val then u else v := fun u v => select_word_eq _ _ (by omega) (by omega) u v
  have hc : Scalar.select (Scalar.cmpi .eq 128#32 0#32) 1#32 128#32 = 128#32 := by decide
  have h11 : ∀ i j : Fin 1, k0_pay21 (F := Ideal) k0_pay87 x (ix3 b i j) = IntOp.remsi .vector (BitVec.ofNat 32 t) 128#32 := fun i j => by
    unfold k0_pay21
    simp only [pointwise, e2]
    rw [hc]
  unfold car2Next
  refine ⟨?_, ?_, ?_, ?_⟩
  · dsimp only
    unfold k0_pay18 k0_pay16
    simp only [pointwise, Nat.reduceEqDiff, ↓reduceDIte, h34, hw, e1, s]
  · dsimp only
    unfold k0_pay19 k0_pay16
    simp only [pointwise, Nat.reduceEqDiff, ↓reduceDIte, h34, hw, e2, s]
  · dsimp only
    unfold k0_pay20 k0_pay17
    simp only [pointwise, Nat.reduceEqDiff, ↓reduceDIte, h33, hw, e2, s]
  · dsimp only
    unfold k0_pay88 k0_pay17
    simp only [pointwise, Nat.reduceEqDiff, ↓reduceDIte, h33, hw, h11, s]
    rw [mod128_word t ht]

/-- The block of level 2 before round `k`: the entries taken so far hold −1. -/
theorem blk2_apply (X : Vec Ideal S4x108x128 .f32) (b : Fin 4) (h0 : ∀ p, 0 ≤ flat2 X b p) :
    ∀ k, k ≤ 60 → ∀ i j, blk2 k0_pay87 X k (ix3 b i j) = taken (flat2 X b) k ⟨i.val * 128 + j.val, flat_lt rfl i j⟩
  | 0, _, i, j => by
    rw [taken_zero]
    show X _ = X _
    congr 1
    refine congrArg₂ (fun i j => ix3 b i j) (Fin.ext ?_) (Fin.ext ?_)
    · show i.val = (i.val * 128 + j.val) / 128
      have := j.isLt; omega
    · show j.val = (i.val * 128 + j.val) % 128
      have := j.isLt; omega
  | k + 1, hk, i, j =>
    (round2 X (blk2 k0_pay87 X k) b h0 ⟨k, by omega⟩ (blk2_apply X b h0 k (Nat.le_of_succ_le hk))).2.2 i j

/-- The carried vectors of level 2 before round `k`, lane by lane. -/
theorem car2_apply (v33 : IVec S4x128x1 32) (v34 : IVec S4x1x128 32)
    (h33 : ∀ b l, v33 (ix3 b l 0) = BitVec.ofNat 32 l.val) (h34 : ∀ b l, v34 (ix3 b 0 l) = BitVec.ofNat 32 l.val)
    (X : Vec Ideal S4x108x128 .f32) (init : Car Ideal) (b : Fin 4) (h0 : ∀ p, 0 ≤ flat2 X b p) (l : Fin 128) :
    ∀ k, k ≤ 60 →
    (car2 k0_pay87 v33 v34 X init k).1 (ix3 b 0 l)
        = (if 60 ≤ l.val ∧ l.val < 60 + k then flat2 X b (T2 X b l) else init.1 (ix3 b 0 l))
    ∧ (car2 k0_pay87 v33 v34 X init k).2.1 (ix3 b 0 l)
        = (if 60 ≤ l.val ∧ l.val < 60 + k then BitVec.ofNat 32 (T2 X b l).val else init.2.1 (ix3 b 0 l))
    ∧ (car2 k0_pay87 v33 v34 X init k).2.2.1 (ix3 b l 0)
        = (if 60 ≤ l.val ∧ l.val < 60 + k then BitVec.ofNat 32 (T2 X b l).val else init.2.2.1 (ix3 b l 0))
    ∧ (car2 k0_pay87 v33 v34 X init k).2.2.2 (ix3 b l 0)
        = (if 60 ≤ l.val ∧ l.val < 60 + k then BitVec.ofNat 32 ((T2 X b l).val % 128) else init.2.2.2 (ix3 b l 0))
  | 0, _ => by
    have hn : ¬(60 ≤ l.val ∧ l.val < 60 + 0) := by omega
    simp only [if_neg hn]
    exact ⟨rfl, rfl, rfl, rfl⟩
  | k + 1, hk => by
    obtain ⟨i1, i2, i3, i4⟩ := car2_apply v33 v34 h33 h34 X init b h0 l k (Nat.le_of_succ_le hk)
    have ht : k < k0_t2_loop.trips := lt_of_lt_of_le (Nat.lt_of_succ_le hk) (by decide)
    obtain ⟨r1, r2, _⟩ := round2 X (blk2 k0_pay87 X k) b h0 ⟨k, by omega⟩ (blk2_apply X b h0 k (Nat.le_of_succ_le hk))
    have hT := (topAt (flat2 X b) ⟨k, by omega⟩).isLt
    obtain ⟨s1, s2, s3, s4⟩ := car2Next_apply v33 v34 h33 h34 ⟨k, ht⟩ (Nat.lt_of_succ_le hk) (blk2 k0_pay87 X k)
      (car2 k0_pay87 v33 v34 X init k) b l _ (by omega) r2
    rw [car2, dif_pos ht, s1, s2, s3, s4, r1, i1, i2, i3, i4]
    by_cases e : l.val = 60 + k
    · have hT' : T2 X b l = topAt (flat2 X b) ⟨k, by omega⟩ := congrArg (topAt (flat2 X b)) (Fin.ext (by show l.val - 60 = k; omega))
      have hp : 60 ≤ l.val ∧ l.val < 60 + (k + 1) := by omega
      simp only [if_pos e, if_pos hp, hT', and_self]
    · have hq : (60 ≤ l.val ∧ l.val < 60 + (k + 1)) ↔ (60 ≤ l.val ∧ l.val < 60 + k) := by omega
      simp only [if_neg e, hq, and_self]

end Cert.Proof

end
-- ==== Proof.Words.lean ====
/-
  The kernel's integer steps on words that hold small numbers: division rounded down, and the comparison with lane 60.
-/
module

public import proofs.«01_k».proof.Proof.ExtractLanes

@[expose] public section

set_option maxRecDepth 16384

noncomputable section

namespace Cert.Proof

open Idealize.ShloMosaic

/-- The sign of a word, as a word. -/
def sgnWord (a : BitVec 32) : BitVec 32 :=
  IntOp.subi (BitVec.setWidth 32 (IntOp.cmpi .sgt a 0#32)) (BitVec.setWidth 32 (IntOp.cmpi .slt a 0#32))

/-- Division rounded down, as the kernel spells it. -/
def floorWord (a b : BitVec 32) : BitVec 32 :=
  Scalar.select (IntOp.andi (IntOp.cmpi .ne (sgnWord a) (sgnWord b)) (IntOp.cmpi .ne (IntOp.remsi .vector a b) 0#32))
    (IntOp.subi (IntOp.divsi .vector a b) 1#32) (IntOp.divsi .vector a b)

theorem sgt_zero_word (m : ℕ) (h0 : 0 < m) (hm : m < 2147483648) : IntOp.cmpi .sgt (BitVec.ofNat 32 m) 0#32 = 1#1 := by
  have h : (0#32).slt (BitVec.ofNat 32 m) = true := by
    rw [BitVec.slt, decide_eq_true_iff, WordArith.toInt_ofNat_small m (by omega)]
    simpa using h0
  simp [IntOp.cmpi, h]

theorem sgnWord_pos (m : ℕ) (h0 : 0 < m) (hm : m < 2147483648) : sgnWord (BitVec.ofNat 32 m) = 1#32 := by
  unfold sgnWord
  rw [sgt_zero_word m h0 hm, slt_zero_word m hm]
  decide

/-- Of small numbers it is the division of numbers. -/
theorem floorWord_eq (a b : ℕ) (ha : a < 2147483648) (h0 : 0 < b) (hb : b < 2147483648) :
    floorWord (BitVec.ofNat 32 a) (BitVec.ofNat 32 b) = BitVec.ofNat 32 (a / b) := by
  unfold floorWord
  rw [Routing.remsi_word .vector (a := a) (b := b) (by omega) h0 (by omega),
    Routing.divsi_word .vector (a := a) (b := b) (by omega) h0 (by omega)]
  rcases Nat.eq_zero_or_pos a with rfl | hp
  · rw [Nat.zero_mod, Nat.zero_div]
    have : IntOp.cmpi .ne (BitVec.ofNat 32 0) 0#32 = 0#1 := by decide
    rw [this]
    simp [IntOp.andi, Scalar.select]
  · rw [sgnWord_pos a hp ha, sgnWord_pos b h0 hb]
    have : IntOp.cmpi .ne 1#32 1#32 = 0#1 := by decide
    rw [this]
    simp [IntOp.andi, Scalar.select]

/-- The lanes from 60 on. -/
theorem sge60_word (l : ℕ) (hl : l < 128) : IntOp.cmpi .sge (BitVec.ofNat 32 l) 60#32 = if 60 ≤ l then 1#1 else 0#1 := by
  have h : (60#32).sle (BitVec.ofNat 32 l) = decide (60 ≤ l) := by
    rw [BitVec.sle, WordArith.toInt_ofNat_small l (by omega)]
    have : (60#32).toInt = 60 := by decide
    rw [this]
    exact decide_eq_decide.mpr (by omega)
  by_cases e : 60 ≤ l <;> simp [IntOp.cmpi, h, e]

theorem mul_word (a b : ℕ) : IntOp.muli (BitVec.ofNat 32 a) (BitVec.ofNat 32 b) = BitVec.ofNat 32 (a * b) := by
  rw [BitVec.ofNat_mul]; rfl

theorem sub_word (a b : ℕ) (h : b ≤ a) : IntOp.subi (BitVec.ofNat 32 a) (BitVec.ofNat 32 b) = BitVec.ofNat 32 (a - b) := by
  obtain ⟨c, rfl⟩ := Nat.exists_eq_add_of_le h
  rw [Nat.add_sub_cancel_left, BitVec.ofNat_add]
  show BitVec.ofNat 32 b + BitVec.ofNat 32 c - BitVec.ofNat 32 b = _
  rw [BitVec.add_comm, BitVec.add_sub_cancel]

theorem eq_word (m n : ℕ) (hm : m < 4294967296) (hn : n < 4294967296) :
    IntOp.cmpi .eq (BitVec.ofNat 32 m) (BitVec.ofNat 32 n) = if m = n then 1#1 else 0#1 := by
  have := select_word_eq m n hm hn 1#1 0#1
  rw [← this]
  generalize IntOp.cmpi .eq (BitVec.ofNat 32 m) (BitVec.ofNat 32 n) = z
  revert z; decide

/-- What a small number's word is as an extended real. -/
theorem sitofp_word (m : ℕ) (hm : m < 2147483648) : FloatOps.sitofp (F := Ideal) .f32 (BitVec.ofNat 32 m) = ((m : ℝ) : EReal) := by
  show (((BitVec.ofNat 32 m).toInt : ℝ) : EReal) = _
  rw [WordArith.toInt_ofNat_small m (by omega)]
  simp

end Cert.Proof

end
-- ==== Proof.RefCand.lean ====
/-
  The reference's candidates: its scores, positions and boxes before the loop are those of the arguments.
-/
module

public import proofs.«01_k».proof.Proof.Cands
public import proofs.«01_k».proof.Proof.RefTop
public import proofs.«01_k».proof.Proof.Words
public import proofs.«01_k».proof.Proof.Gen.ReferenceIdeal.Step

@[expose] public section

set_option maxRecDepth 16384
set_option maxHeartbeats 2000000

noncomputable section

namespace Cert.Proof

open Idealize.ShloMosaic Idealize.ShloMosaic.TcCoe Idealize.SL.Sem Cert.ReferenceIdeal Cert.ReferenceIdeal.Gen Cert.ReferenceIdeal.Step

/-- The grid of the first level. -/
theorem grid1 (x y z : Fin 48) :
    K_main_v9 (F := Ideal) (ix4 x y z 0) = (((x.val : ℕ) : ℝ) : EReal)
    ∧ K_main_v9 (F := Ideal) (ix4 x y z 1) = (((y.val : ℕ) : ℝ) : EReal)
    ∧ K_main_v9 (F := Ideal) (ix4 x y z 2) = (((z.val : ℕ) : ℝ) : EReal)  := by
  refine ⟨?_, ?_, ?_⟩
  · show FloatOps.sitofp (F := Ideal) .f32 (BitVec.ofNat 32 x.val) = _
    exact sitofp_word x.val (by have := x.isLt; omega)
  · show FloatOps.sitofp (F := Ideal) .f32 (BitVec.ofNat 32 y.val) = _
    exact sitofp_word y.val (by have := y.isLt; omega)
  · show FloatOps.sitofp (F := Ideal) .f32 (BitVec.ofNat 32 z.val) = _
    exact sitofp_word z.val (by have := z.isLt; omega)

/-- The grid of the second level. -/
theorem grid2 (x y z : Fin 24) :
    K_main_v46 (F := Ideal) (ix4 x y z 0) = (((x.val : ℕ) : ℝ) : EReal)
    ∧ K_main_v46 (F := Ideal) (ix4 x y z 1) = (((y.val : ℕ) : ℝ) : EReal)
    ∧ K_main_v46 (F := Ideal) (ix4 x y z 2) = (((z.val : ℕ) : ℝ) : EReal)  := by
  refine ⟨?_, ?_, ?_⟩
  · show FloatOps.sitofp (F := Ideal) .f32 (BitVec.ofNat 32 x.val) = _
    exact sitofp_word x.val (by have := x.isLt; omega)
  · show FloatOps.sitofp (F := Ideal) .f32 (BitVec.ofNat 32 y.val) = _
    exact sitofp_word y.val (by have := y.isLt; omega)
  · show FloatOps.sitofp (F := Ideal) .f32 (BitVec.ofNat 32 z.val) = _
    exact sitofp_word z.val (by have := z.isLt; omega)

theorem bits_one : Ideal.ofBits .f32 0x3F800000#32 = 1 := by
  simp [Ideal.ofBits, Ideal.ieee]
  rw [← EReal.coe_mul, show ((8388608 : ℝ) * (2 ^ 23)⁻¹) = 1 by norm_num]
  rfl

/-- A position of the first level, or one of the second after all of the first. -/
def joinPos (x : Fin 110592) (y : Fin 13824) (l : Fin 120) : Fin 124416 :=
  if l.val < 60 then ⟨x.val, by omega⟩ else ⟨110592 + y.val, by omega⟩

theorem joinPos_lo (x : Fin 110592) (y : Fin 13824) (l : Fin 120) (h : l.val < 60) : (joinPos x y l).val = x.val := by
  unfold joinPos
  rw [if_pos h]
theorem joinPos_hi (x : Fin 110592) (y : Fin 13824) (l : Fin 120) (h : ¬ l.val < 60) : (joinPos x y l).val = 110592 + y.val := by
  unfold joinPos
  rw [if_neg h]

/-- The position of a candidate among all boxes. -/
def posOf (A : Args) (b : Fin 4) (l : Fin 120) : Fin 124416 := joinPos (A.pos1 b l) (A.pos2 b l) l

theorem posOf_lo (A : Args) (b : Fin 4) (l : Fin 120) (h : l.val < 60) : (posOf A b l).val = (A.pos1 b l).val :=
  joinPos_lo _ _ l h
theorem posOf_hi (A : Args) (b : Fin 4) (l : Fin 120) (h : ¬ l.val < 60) : (posOf A b l).val = 110592 + (A.pos2 b l).val :=
  joinPos_hi _ _ l h

/-- A sum of words. -/
theorem addi_word (m n : ℕ) : IntOp.addi (BitVec.ofNat 32 m) (BitVec.ofNat 32 n) = BitVec.ofNat 32 (n + m) := by
  rw [Nat.add_comm, BitVec.ofNat_add]
  rfl

/-- An entry of a table of both levels at a joined position. -/
theorem table_joinPos {α : Type} (f : Fin 110592 → α) (g : Fin 13824 → α) (x : Fin 110592) (y : Fin 13824) (l : Fin 120) :
    (if h : (joinPos x y l).val < 110592 then f ⟨(joinPos x y l).val, h⟩ else g ⟨(joinPos x y l).val - 110592, by omega⟩)
      = if l.val < 60 then f x else g y := by
  have hx := x.isLt
  by_cases h : l.val < 60
  · have e := joinPos_lo x y l h
    rw [dif_pos (by omega), if_pos h]
    exact congrArg f (Fin.ext e)
  · have e := joinPos_hi x y l h
    rw [dif_neg (by omega), if_neg h]
    have e2 : (joinPos x y l).val - 110592 = y.val := by omega
    exact congrArg g (Fin.ext e2)

/-- The box of a candidate. -/
theorem bx_posOf (A : Args) (b : Fin 4) (l : Fin 120) (d : Fin 6) :
    (if h : (posOf A b l).val < 110592 then A.bx1 b ⟨(posOf A b l).val, h⟩ d else A.bx2 b ⟨(posOf A b l).val - 110592, by omega⟩ d)
      = (A.cnd b).bx l d := by
  refine (table_joinPos (fun t => A.bx1 b t d) (fun t => A.bx2 b t d) (A.pos1 b l) (A.pos2 b l) l).trans ?_
  show _ = (if l.val < 60 then A.bx1 b (A.pos1 b l) else A.bx2 b (A.pos2 b l)) d
  split <;> rfl

variable (main_arg0 : (⟨S4x1x48x48x48, .f32⟩ : BufTy).Contents (Elt Ideal)) (main_arg1 : (⟨S4x3x48x48x48, .f32⟩ : BufTy).Contents (Elt Ideal)) (main_arg2 : (⟨S4x3x48x48x48, .f32⟩ : BufTy).Contents (Elt Ideal)) (main_arg3 : (⟨S4x1x24x24x24, .f32⟩ : BufTy).Contents (Elt Ideal)) (main_arg4 : (⟨S4x3x24x24x24, .f32⟩ : BufTy).Contents (Elt Ideal)) (main_arg5 : (⟨S4x3x24x24x24, .f32⟩ : BufTy).Contents (Elt Ideal))

/-- The reference's arguments. -/
def argsOf : Args := ⟨main_arg0, main_arg1, main_arg2, main_arg3, main_arg4, main_arg5⟩

theorem v20_apply (b : Fin 4) (p : Fin 110592) :
    A_main_v20 (F := Ideal) main_arg0 main_arg1 main_arg2 main_arg3 main_arg4 main_arg5 (ix2 b p) = Args.sc1 (argsOf main_arg0 main_arg1 main_arg2 main_arg3 main_arg4 main_arg5) b p := by
  unfold A_main_v20 A_main_v18 A_main_v16 A_main_v15 A_main_v14 A_main_v13 A_main_v12 K_main_v19 K_main_v17 K_main_cst_1 K_main_cst_2
  simp only [pointwise, Nat.reduceEqDiff, ↓reduceDIte]
  rfl
theorem v57_apply (b : Fin 4) (p : Fin 13824) :
    A_main_v57 (F := Ideal) main_arg0 main_arg1 main_arg2 main_arg3 main_arg4 main_arg5 (ix2 b p) = Args.sc2 (argsOf main_arg0 main_arg1 main_arg2 main_arg3 main_arg4 main_arg5) b p := by
  unfold A_main_v57 A_main_v55 A_main_v53 A_main_v52 A_main_v51 A_main_v50 A_main_v49 K_main_v56 K_main_v54 K_main_cst_4 K_main_cst_5
  simp only [pointwise, Nat.reduceEqDiff, ↓reduceDIte]
  rfl
theorem v30_apply (b : Fin 4) (p : Fin 110592) (d : Fin 3) :
    A_main_v30 (F := Ideal) main_arg0 main_arg1 main_arg2 main_arg3 main_arg4 main_arg5 (ix3 b p d)
      = centre 48 p.val d.val (at1 main_arg2 b d p) two := by
  have h : A_main_v30 (F := Ideal) main_arg0 main_arg1 main_arg2 main_arg3 main_arg4 main_arg5 (ix3 b p d)
      = (K_main_v9 (F := Ideal) (ix4 ⟨p.val / 2304, by have := p.isLt; omega⟩ ⟨p.val / 48 % 48, by omega⟩ ⟨p.val % 48, by omega⟩ d) + at1 main_arg2 b d p) * two := by
    unfold A_main_v30 A_main_v27 A_main_v24 A_main_v23 K_main_v26 K_main_v25 K_main_v10 K_main_v29 K_main_v28 K_main_v11 K_main_cst
    simp only [pointwise, Nat.reduceEqDiff, ↓reduceDIte]
    rfl
  rw [h]
  have hp := p.isLt
  obtain ⟨h0, h1, h2⟩ := grid1 ⟨p.val / 2304, by omega⟩ ⟨p.val / 48 % 48, by omega⟩ ⟨p.val % 48, by omega⟩
  unfold centre
  refine congrArg (fun z => (z + at1 main_arg2 b d p) * two) ?_
  match d with
  | ⟨0, _⟩ => exact h0
  | ⟨1, _⟩ => exact h1
  | ⟨2, _⟩ => exact h2
theorem v67_apply (b : Fin 4) (p : Fin 13824) (d : Fin 3) :
    A_main_v67 (F := Ideal) main_arg0 main_arg1 main_arg2 main_arg3 main_arg4 main_arg5 (ix3 b p d)
      = centre 24 p.val d.val (at2 main_arg5 b d p) four := by
  have h : A_main_v67 (F := Ideal) main_arg0 main_arg1 main_arg2 main_arg3 main_arg4 main_arg5 (ix3 b p d)
      = (K_main_v46 (F := Ideal) (ix4 ⟨p.val / 576, by have := p.isLt; omega⟩ ⟨p.val / 24 % 24, by omega⟩ ⟨p.val % 24, by omega⟩ d) + at2 main_arg5 b d p) * four := by
    unfold A_main_v67 A_main_v64 A_main_v61 A_main_v60 K_main_v63 K_main_v62 K_main_v47 K_main_v66 K_main_v65 K_main_v48 K_main_cst_0
    simp only [pointwise, Nat.reduceEqDiff, ↓reduceDIte]
    rfl
  rw [h]
  have hp := p.isLt
  obtain ⟨h0, h1, h2⟩ := grid2 ⟨p.val / 576, by omega⟩ ⟨p.val / 24 % 24, by omega⟩ ⟨p.val % 24, by omega⟩
  unfold centre
  refine congrArg (fun z => (z + at2 main_arg5 b d p) * four) ?_
  match d with
  | ⟨0, _⟩ => exact h0
  | ⟨1, _⟩ => exact h1
  | ⟨2, _⟩ => exact h2
theorem v35_apply (b : Fin 4) (p : Fin 110592) (d : Fin 3) :
    A_main_v35 (F := Ideal) main_arg0 main_arg1 main_arg2 main_arg3 main_arg4 main_arg5 (ix3 b p d)
      = extent (at1 main_arg1 b d p) two := by
  unfold A_main_v35 A_main_v32 A_main_v22 A_main_v21 K_main_v34 K_main_v33 K_main_v31 K_main_v11 K_main_cst K_main_cst_3
  simp only [pointwise, Nat.reduceEqDiff, ↓reduceDIte]
  rfl
theorem v72_apply (b : Fin 4) (p : Fin 13824) (d : Fin 3) :
    A_main_v72 (F := Ideal) main_arg0 main_arg1 main_arg2 main_arg3 main_arg4 main_arg5 (ix3 b p d)
      = extent (at2 main_arg4 b d p) four := by
  unfold A_main_v72 A_main_v69 A_main_v59 A_main_v58 K_main_v71 K_main_v70 K_main_v68 K_main_v48 K_main_cst_0 K_main_cst_6
  simp only [pointwise, Nat.reduceEqDiff, ↓reduceDIte]
  rfl
theorem v36_apply (b : Fin 4) (p : Fin 110592) (d : Fin 6) :
    A_main_v36 (F := Ideal) main_arg0 main_arg1 main_arg2 main_arg3 main_arg4 main_arg5 (ix3 b p d) = Args.bx1 (argsOf main_arg0 main_arg1 main_arg2 main_arg3 main_arg4 main_arg5) b p d := by
  unfold A_main_v36 Args.bx1
  simp only [pointwise, Nat.reduceEqDiff, ↓reduceDIte]
  by_cases h : d.val < 3
  · rw [dif_pos h, dif_pos h]
    exact v30_apply main_arg0 main_arg1 main_arg2 main_arg3 main_arg4 main_arg5 b p ⟨d.val, h⟩
  · rw [dif_neg h, dif_neg h]
    exact v35_apply main_arg0 main_arg1 main_arg2 main_arg3 main_arg4 main_arg5 b p ⟨d.val - 3, by omega⟩
theorem v73_apply (b : Fin 4) (p : Fin 13824) (d : Fin 6) :
    A_main_v73 (F := Ideal) main_arg0 main_arg1 main_arg2 main_arg3 main_arg4 main_arg5 (ix3 b p d) = Args.bx2 (argsOf main_arg0 main_arg1 main_arg2 main_arg3 main_arg4 main_arg5) b p d := by
  unfold A_main_v73 Args.bx2
  simp only [pointwise, Nat.reduceEqDiff, ↓reduceDIte]
  by_cases h : d.val < 3
  · rw [dif_pos h, dif_pos h]
    exact v67_apply main_arg0 main_arg1 main_arg2 main_arg3 main_arg4 main_arg5 b p ⟨d.val, h⟩
  · rw [dif_neg h, dif_neg h]
    exact v72_apply main_arg0 main_arg1 main_arg2 main_arg3 main_arg4 main_arg5 b p ⟨d.val - 3, by omega⟩

/-- The scores of the candidates. -/
theorem v74_apply (b : Fin 4) (l : Fin 120) :
    A_main_v74 (F := Ideal) main_arg0 main_arg1 main_arg2 main_arg3 main_arg4 main_arg5 (ix2 b l) = ((argsOf main_arg0 main_arg1 main_arg2 main_arg3 main_arg4 main_arg5).cnd b).sc l := by
  have h1 : ∀ q : Fin 60, A_main_values (F := Ideal) main_arg0 main_arg1 main_arg2 main_arg3 main_arg4 main_arg5 (ix2 b q) = (argsOf main_arg0 main_arg1 main_arg2 main_arg3 main_arg4 main_arg5).sc1 b (topAt ((argsOf main_arg0 main_arg1 main_arg2 main_arg3 main_arg4 main_arg5).sc1 b) ⟨q.val, by omega⟩) := fun q => by
    unfold A_main_values
    rw [(topK_apply (A_main_v20 (F := Ideal) main_arg0 main_arg1 main_arg2 main_arg3 main_arg4 main_arg5) sliceFits_S4x110592_S4x60 b q (by omega)).1]
    simp only [v20_apply]
  have h2 : ∀ q : Fin 60, A_main_values_7 (F := Ideal) main_arg0 main_arg1 main_arg2 main_arg3 main_arg4 main_arg5 (ix2 b q) = (argsOf main_arg0 main_arg1 main_arg2 main_arg3 main_arg4 main_arg5).sc2 b (topAt ((argsOf main_arg0 main_arg1 main_arg2 main_arg3 main_arg4 main_arg5).sc2 b) ⟨q.val, by omega⟩) := fun q => by
    unfold A_main_values_7
    rw [(topK_apply (A_main_v57 (F := Ideal) main_arg0 main_arg1 main_arg2 main_arg3 main_arg4 main_arg5) sliceFits_S4x13824_S4x60 b q (by omega)).1]
    simp only [v57_apply]
  unfold A_main_v74
  simp only [pointwise, Nat.reduceEqDiff, ↓reduceDIte]
  by_cases h : l.val < 60
  · rw [dif_pos h]
    exact (h1 ⟨l.val, h⟩).trans (by unfold Args.cnd Args.pos1; dsimp only; rw [if_pos h])
  · rw [dif_neg h]
    exact (h2 ⟨l.val - 60, by omega⟩).trans (by unfold Args.cnd Args.pos2; dsimp only; rw [if_neg h])

/-- The position word of a candidate. -/
theorem v77_apply (b : Fin 4) (l : Fin 120) :
    A_main_v77 (F := Ideal) main_arg0 main_arg1 main_arg2 main_arg3 main_arg4 main_arg5 (ix2 b l) = BitVec.ofNat 32 (posOf (argsOf main_arg0 main_arg1 main_arg2 main_arg3 main_arg4 main_arg5) b l).val := by
  have h1 : ∀ q : Fin 60, q.val = l.val → A_main_indices (F := Ideal) main_arg0 main_arg1 main_arg2 main_arg3 main_arg4 main_arg5 (ix2 b q) = BitVec.ofNat 32 ((argsOf main_arg0 main_arg1 main_arg2 main_arg3 main_arg4 main_arg5).pos1 b l).val := fun q hq => by
    unfold A_main_indices
    rw [(topK_apply (A_main_v20 (F := Ideal) main_arg0 main_arg1 main_arg2 main_arg3 main_arg4 main_arg5) sliceFits_S4x110592_S4x60 b q (by omega)).2]
    simp only [v20_apply]
    unfold Args.pos1
    exact congrArg (fun r => BitVec.ofNat 32 (topAt ((argsOf main_arg0 main_arg1 main_arg2 main_arg3 main_arg4 main_arg5).sc1 b) r).val) (Fin.ext hq)
  have h2 : ∀ q : Fin 60, q.val = l.val - 60 → A_main_indices_8 (F := Ideal) main_arg0 main_arg1 main_arg2 main_arg3 main_arg4 main_arg5 (ix2 b q) = BitVec.ofNat 32 ((argsOf main_arg0 main_arg1 main_arg2 main_arg3 main_arg4 main_arg5).pos2 b l).val := fun q hq => by
    unfold A_main_indices_8
    rw [(topK_apply (A_main_v57 (F := Ideal) main_arg0 main_arg1 main_arg2 main_arg3 main_arg4 main_arg5) sliceFits_S4x13824_S4x60 b q (by omega)).2]
    simp only [v57_apply]
    unfold Args.pos2
    exact congrArg (fun r => BitVec.ofNat 32 (topAt ((argsOf main_arg0 main_arg1 main_arg2 main_arg3 main_arg4 main_arg5).sc2 b) r).val) (Fin.ext hq)
  have h3 : ∀ q : Fin 60, q.val = l.val - 60 → A_main_v76 (F := Ideal) main_arg0 main_arg1 main_arg2 main_arg3 main_arg4 main_arg5 (ix2 b q) = BitVec.ofNat 32 (110592 + ((argsOf main_arg0 main_arg1 main_arg2 main_arg3 main_arg4 main_arg5).pos2 b l).val) := fun q hq => by
    unfold A_main_v76 K_main_v75 K_main_c
    simp only [pointwise, Nat.reduceEqDiff, ↓reduceDIte]
    rw [h2 q hq]
    exact addi_word _ _
  unfold A_main_v77
  simp only [pointwise, Nat.reduceEqDiff, ↓reduceDIte]
  by_cases h : l.val < 60
  · rw [dif_pos h, posOf_lo _ _ _ h]
    exact h1 ⟨l.val, h⟩ rfl
  · rw [dif_neg h, posOf_hi _ _ _ h]
    exact h3 ⟨l.val - 60, by omega⟩ rfl

/-- The word the boxes are gathered at: the position, as it is never negative. -/
theorem call0_v4_apply (b : Fin 4) (l : Fin 120) :
    A_main_call0_v4 (F := Ideal) main_arg0 main_arg1 main_arg2 main_arg3 main_arg4 main_arg5 (ix3 b l 0) = BitVec.ofNat 32 (posOf (argsOf main_arg0 main_arg1 main_arg2 main_arg3 main_arg4 main_arg5) b l).val := by
  have h : A_main_v79 (F := Ideal) main_arg0 main_arg1 main_arg2 main_arg3 main_arg4 main_arg5 (ix3 b l 0) = BitVec.ofNat 32 (posOf (argsOf main_arg0 main_arg1 main_arg2 main_arg3 main_arg4 main_arg5) b l).val := by
    unfold A_main_v79
    simp only [pointwise, Nat.reduceEqDiff, ↓reduceDIte, v77_apply]
  unfold A_main_call0_v4 A_main_call0_v1 A_main_call0_v3 K_main_call0_v0 K_main_call0_c
  show Scalar.select (IntOp.cmpi .slt (A_main_v79 (F := Ideal) main_arg0 main_arg1 main_arg2 main_arg3 main_arg4 main_arg5 (ix3 b l 0)) 0#32) _ _ = _
  rw [h, slt_zero_word _ (by omega)]
  unfold Scalar.select
  rw [if_neg (by decide)]

/-- All boxes. -/
theorem v78_at (b : Fin 4) (t : Fin 124416) (d : Fin 6) :
    A_main_v78 (F := Ideal) main_arg0 main_arg1 main_arg2 main_arg3 main_arg4 main_arg5 (ix3 b t d)
      = if h : t.val < 110592 then (argsOf main_arg0 main_arg1 main_arg2 main_arg3 main_arg4 main_arg5).bx1 b ⟨t.val, h⟩ d else (argsOf main_arg0 main_arg1 main_arg2 main_arg3 main_arg4 main_arg5).bx2 b ⟨t.val - 110592, by omega⟩ d := by
  unfold A_main_v78
  simp only [pointwise, Nat.reduceEqDiff, ↓reduceDIte]
  by_cases h : t.val < 110592
  · rw [dif_pos h, dif_pos h]
    exact v36_apply main_arg0 main_arg1 main_arg2 main_arg3 main_arg4 main_arg5 b ⟨t.val, h⟩ d
  · rw [dif_neg h, dif_neg h]
    exact v73_apply main_arg0 main_arg1 main_arg2 main_arg3 main_arg4 main_arg5 b ⟨t.val - 110592, by omega⟩ d

/-- The box at a candidate's position. -/
theorem v78_apply (b : Fin 4) (l : Fin 120) (d : Fin 6) :
    A_main_v78 (F := Ideal) main_arg0 main_arg1 main_arg2 main_arg3 main_arg4 main_arg5 (ix3 b (posOf (argsOf main_arg0 main_arg1 main_arg2 main_arg3 main_arg4 main_arg5) b l) d) = ((argsOf main_arg0 main_arg1 main_arg2 main_arg3 main_arg4 main_arg5).cnd b).bx l d := by
  rw [v78_at]
  exact bx_posOf _ b l d

/-- The boxes of the candidates. -/
theorem v80_apply (b : Fin 4) (l : Fin 120) (d : Fin 6) :
    A_main_v80 (F := Ideal) main_arg0 main_arg1 main_arg2 main_arg3 main_arg4 main_arg5 (ix3 b l d) = ((argsOf main_arg0 main_arg1 main_arg2 main_arg3 main_arg4 main_arg5).cnd b).bx l d := by
  unfold A_main_v80
  refine (gather_rows_apply (N := 124416) (C := 6) (M := 120) gather_S4x124416x6_S4x120x1_S4x120x6_2_1_0_0_1_2_116.wf _ _ b l d (posOf (argsOf main_arg0 main_arg1 main_arg2 main_arg3 main_arg4 main_arg5) b l) (by omega)
    (call0_v4_apply main_arg0 main_arg1 main_arg2 main_arg3 main_arg4 main_arg5 b l)).trans ?_
  exact v78_apply main_arg0 main_arg1 main_arg2 main_arg3 main_arg4 main_arg5 b l d

/-- The candidates that start alive. -/
theorem v84_apply (b : Fin 4) (l : Fin 120) :
    A_main_v84 (F := Ideal) main_arg0 main_arg1 main_arg2 main_arg3 main_arg4 main_arg5 (ix2 b l) = 1#1 ↔ ((argsOf main_arg0 main_arg1 main_arg2 main_arg3 main_arg4 main_arg5).cnd b).alive 0 l := by
  unfold A_main_v84 K_main_v83 K_main_cst_10
  show BitVec.ofBool (decide (A_main_v74 (F := Ideal) main_arg0 main_arg1 main_arg2 main_arg3 main_arg4 main_arg5 (ix2 b l) > Ideal.ofBits .f32 0x3E19999A#32)) = 1#1 ↔ thr < ((argsOf main_arg0 main_arg1 main_arg2 main_arg3 main_arg4 main_arg5).cnd b).sc l
  rw [v74_apply, WordArith.ofBool_eq_one_iff, decide_eq_true_iff]
  rfl

end Cert.Proof

end
-- ==== Proof.RefStep.lean ====
/-
  One trip of the reference's loop: the row it writes and the candidates it leaves alive are those of the greedy selection.
-/
module

public import proofs.«01_k».proof.Proof.RefTop
public import proofs.«01_k».proof.Proof.Greedy
public import proofs.«01_k».proof.Proof.Words
public import proofs.«01_k».proof.Proof.Gen.ReferenceIdeal.Step

@[expose] public section

set_option maxRecDepth 16384
set_option maxHeartbeats 2000000

noncomputable section

namespace Cert.Proof

open Idealize.ShloMosaic Idealize.ShloMosaic.TcCoe Idealize.SL.Sem Cert.ReferenceIdeal Cert.ReferenceIdeal.Gen Cert.ReferenceIdeal.Step

theorem bits_half : Ideal.ofBits .f32 0x3F000000#32 = ((1 / 2 : ℝ) : EReal) := by
  simp [Ideal.ofBits, Ideal.ieee, -EReal.coe_mul]
  norm_num

theorem bits_two : Ideal.ofBits .f32 0x40000000#32 = ((2 : ℝ) : EReal) := by
  simp [Ideal.ofBits, Ideal.ieee, -EReal.coe_mul]
  norm_num

/-- Half of a number: divided by two, or times one half. -/
theorem div_two (x : EReal) : Ideal.div x (Ideal.ofBits .f32 0x40000000#32) = x * Ideal.ofBits .f32 0x3F000000#32 := by
  rw [bits_two, bits_half]
  unfold Ideal.div
  rw [if_neg (by norm_cast), ← EReal.coe_inv]
  norm_num

theorem andi_one : ∀ a b : BitVec 1, IntOp.andi a b = 1#1 ↔ a = 1#1 ∧ b = 1#1 := by decide

/-- A state of the loop before trip `k`: the candidates, those alive, and the rows written so far. -/
structure At (s : State Ideal) (C : Fin 4 → Cnd) (k : ℕ) : Prop where
  sc : ∀ b l, s.main_v85_0 (ix2 b l) = (C b).sc l
  bx : ∀ b l d, s.main_v85_1 (ix3 b l d) = (C b).bx l d
  al : ∀ b l, s.main_v85_5 (ix2 b l) = 1#1 ↔ (C b).alive k l
  det : ∀ b r q, s.main_v85_4 (ix3 b r q) = if r.val < k then (C b).row r.val q else -1

variable {s : State Ideal} {C : Fin 4 → Cnd} {k : ℕ} (h : At s C k)

include h

/-- The candidate trip `k` takes. -/
abbrev bestAt (C : Fin 4 → Cnd) (k : ℕ) (b : Fin 4) : Fin 120 := (C b).best ((C b).alive k)

theorem b5_apply (b : Fin 4) (l : Fin 120) : b5 (F := Ideal) k s (ix2 b l) = (C b).mask ((C b).alive k) l := by
  unfold b5 b4 b3 b2 Cnd.mask
  simp only [pointwise, bits_bot]
  by_cases e : (C b).alive k l
  · rw [if_pos e]
    exact (if_pos ((h.al b l).mpr e)).trans (h.sc b l)
  · rw [if_neg e]
    exact if_neg fun e' => e ((h.al b l).mp e')

theorem b67_apply (b : Fin 4) :
    b6 (F := Ideal) k s (ix2 b 0) = (C b).mask ((C b).alive k) (bestAt C k b)
      ∧ b7 (F := Ideal) k s (ix2 b 0) = BitVec.ofNat 32 (bestAt C k b).val := by
  have e : (fun p => b5 (F := Ideal) k s (ix2 b p)) = (C b).mask ((C b).alive k) := funext fun p => b5_apply h b p
  have hb : bestAt C k b = topAt ((C b).mask ((C b).alive k)) 0 := by
    unfold bestAt Cnd.best
    rfl
  obtain ⟨h1, h2⟩ := topK_apply (b5 (F := Ideal) k s) sliceFits_S4x120_S4x1 b 0 (by decide)
  rw [e] at h1 h2
  unfold b6 b7
  rw [hb]
  exact ⟨h1.trans (b5_apply h b _), h2⟩

theorem b18_apply (b : Fin 4) : b18 (F := Ideal) k s (ix3 b 0 0) = BitVec.ofNat 32 (bestAt C k b).val := by
  have h7 := (b67_apply h b).2
  unfold b18 b17 b16 b13 b12 b11
  simp only [pointwise, Nat.reduceEqDiff, ↓reduceDIte]
  rw [h7, slt_zero_word _ (by omega)]
  unfold Scalar.select
  rw [if_neg (by decide)]

theorem b27_apply (b : Fin 4) : b27 (F := Ideal) k s (ix3 b 0 0) = BitVec.ofNat 32 (bestAt C k b).val := by
  have h7 := (b67_apply h b).2
  unfold b27 b26 b23 b22 b21 b20
  simp only [pointwise, Nat.reduceEqDiff, ↓reduceDIte]
  rw [h7, slt_zero_word _ (by omega)]
  unfold Scalar.select
  rw [if_neg (by decide)]

theorem b19_apply (b : Fin 4) : b19 (F := Ideal) k s (ix2 b 0) = (C b).sc (bestAt C k b) := by
  unfold b19
  exact (gather_entry_apply (N := 120) gather_S4x120_S4x1x1_S4x1_n_1_0_0_1_2_11.wf _ _ b (bestAt C k b) (by omega) (b18_apply h b)).trans
    (h.sc b _)

theorem b28_apply (b : Fin 4) (d : Fin 6) : b28 (F := Ideal) k s (ix3 b 0 d) = (C b).bx (bestAt C k b) d := by
  unfold b28
  exact (gather_rows_apply (N := 120) (C := 6) (M := 1) gather_S4x120x6_S4x1x1_S4x1x6_2_1_0_0_1_2_116.wf _ _ b 0 d (bestAt C k b) (by omega)
    (b27_apply h b)).trans (h.bx b _ d)

theorem b32_apply (b : Fin 4) (q : Fin 8) :
    b32 (F := Ideal) k s (ix2 b q) = if h0 : q.val = 0 then 1 else if h1 : q.val = 1 then (C b).sc (bestAt C k b)
      else (C b).bx (bestAt C k b) ⟨q.val - 2, by omega⟩ := by
  unfold b32 b31 b30 b29
  simp only [pointwise, Nat.reduceEqDiff, ↓reduceDIte]
  by_cases h0 : q.val = 0
  · rw [dif_pos h0]
    exact dif_pos (show q.val < 1 by omega)
  · rw [dif_neg h0]
    refine (dif_neg (show ¬ q.val < 1 by omega)).trans ?_
    by_cases h1 : q.val = 1
    · rw [dif_pos h1]
      refine (dif_pos (show q.val - 1 < 1 by omega)).trans ?_
      refine Eq.trans (congrArg (b19 (F := Ideal) k s) (funext fun a => Fin.ext ?_)) (b19_apply h b)
      match a with
      | ⟨0, _⟩ => rfl
      | ⟨1, _⟩ => show q.val - 1 = 0; omega
    · rw [dif_neg h1]
      refine (dif_neg (show ¬ q.val - 1 < 1 by omega)).trans ?_
      exact b28_apply h b ⟨q.val - 2, by omega⟩

theorem b45_apply (b : Fin 4) (r : Fin 120) (q : Fin 8) (hk : k < 2147483648) :
    b45 (F := Ideal) k s (ix3 b r q) = if r.val < k + 1 then (C b).row r.val q else -1 := by
  unfold b45 b44 b43 b42 b41 b40 b39 b38 b37 b36 b35 b34 b33 b10 b9 b8
  simp only [pointwise, Nat.reduceEqDiff, ↓reduceDIte]
  show Scalar.select (IntOp.andi (IntOp.cmpi .eq (BitVec.ofNat 32 r.val) (BitVec.ofNat 32 k)) _) _ _ = _
  rw [bits_bot, (b67_apply h b).1, b32_apply h b q, h.det b r q]
  have hw : IntOp.cmpi .eq (BitVec.ofNat 32 r.val) (BitVec.ofNat 32 k) = BitVec.ofBool (decide (r.val = k)) := by
    show BitVec.ofBool (BitVec.ofNat 32 r.val == BitVec.ofNat 32 k) = _
    refine congrArg BitVec.ofBool ?_
    rw [Bool.eq_iff_iff, beq_iff_eq, decide_eq_true_iff, ← BitVec.toNat_inj, BitVec.toNat_ofNat, BitVec.toNat_ofNat,
      Nat.mod_eq_of_lt (by omega), Nat.mod_eq_of_lt (by omega)]
  rw [hw, WordArith.andi_ofBool]
  unfold Scalar.select
  simp only [WordArith.ofBool_eq_numeral_one_iff, Bool.and_eq_true, decide_eq_true_eq]
  by_cases e : r.val = k
  · rw [if_pos (show r.val < k + 1 by omega), if_neg (show ¬ r.val < k by omega)]
    rw [e]
    unfold Cnd.row
    simp only [true_and]
  · rw [if_neg (fun hh => e hh.1)]
    exact if_congr (by omega) rfl rfl

theorem b83_apply (b : Fin 4) (l : Fin 120) :
    b83 (F := Ideal) k s (ix2 b l) = common ((C b).bx (bestAt C k b)) ((C b).bx l) := by
  unfold b83 b82 b81 b80 b79 b78 b77 b76 b75 b74 b73 b72 b71 b70 b69 b68 b67 b66 b65 b64 b63 b62 b61 b60 b59 b58 b57 b56 b55 b54 b53 b52 b51 b50 b49 b48 b47 b46
  simp only [pointwise, Nat.reduceEqDiff, ↓reduceDIte, Matrix.cons_val_zero, Matrix.cons_val_one, Nat.zero_add, Fin.eta, div_two, b28_apply h, h.bx]
  rfl

theorem b107_apply (b : Fin 4) (l : Fin 120) :
    b107 (F := Ideal) k s (ix2 b l) = iou ((C b).bx (bestAt C k b)) ((C b).bx l) := by
  unfold b107 b106 b105 b104 b103 b102 b101 b100 b99 b98 b97 b96 b95 b94 b93 b92 b91 b90 b89 b88 b87 b86 b85 b84 b47
  simp only [pointwise, Nat.reduceEqDiff, ↓reduceDIte, Matrix.cons_val_zero, Matrix.cons_val_one, Nat.zero_add, Fin.eta, b28_apply h, h.bx, b83_apply h]
  rfl

theorem b117_apply (b : Fin 4) (l : Fin 120) :
    b117 (F := Ideal) k s (ix2 b l) = 1#1 ↔ (C b).alive (k + 1) l := by
  unfold b117 b116 b115 b114 b113 b112 b111 b110 b109 b108
  simp only [pointwise, Nat.reduceEqDiff, ↓reduceDIte, b107_apply h, (b67_apply h b).2]
  have hn : IntOp.cmpi .ne (BitVec.ofNat 32 l.val) (BitVec.ofNat 32 (bestAt C k b).val) = 1#1 ↔ l ≠ bestAt C k b := by
    show BitVec.ofBool (BitVec.ofNat 32 l.val != BitVec.ofNat 32 (bestAt C k b).val) = 1#1 ↔ _
    rw [WordArith.ofBool_eq_one_iff, bne_iff_ne, ne_eq, ← BitVec.toNat_inj, BitVec.toNat_ofNat, BitVec.toNat_ofNat,
      Nat.mod_eq_of_lt (by omega), Nat.mod_eq_of_lt (by omega), ← Fin.ext_iff]
  rw [andi_one, andi_one, h.al b l, hn, WordArith.ofBool_eq_one_iff, decide_eq_true_iff]
  exact Iff.rfl

/-- One trip takes a state before trip `k` to a state before trip `k + 1`. -/
theorem At.next (hk : k < 2147483648) : At (step k s) C (k + 1) where
  sc := h.sc
  bx := h.bx
  al := fun b l => by rw [step_main_v85_5]; exact b117_apply h b l
  det := fun b r q => by rw [step_main_v85_4]; exact b45_apply h b r q hk

end Cert.Proof

end
-- ==== Proof.RefValue.lean ====
/-
  What the reference leaves: the rows of the greedy selection over the candidates of its arguments.
-/
module

public import proofs.«01_k».proof.Proof.RefCand
public import proofs.«01_k».proof.Proof.RefInit
public import proofs.«01_k».proof.Proof.RefStep

@[expose] public section

set_option maxRecDepth 16384
set_option maxHeartbeats 2000000

noncomputable section

namespace Cert.Proof

open Idealize.ShloMosaic Idealize.ShloMosaic.TcCoe Idealize.SL.Sem Cert.ReferenceIdeal Cert.ReferenceIdeal.Gen Cert.ReferenceIdeal.Step

variable (main_arg0 : (⟨S4x1x48x48x48, .f32⟩ : BufTy).Contents (Elt Ideal)) (main_arg1 : (⟨S4x3x48x48x48, .f32⟩ : BufTy).Contents (Elt Ideal)) (main_arg2 : (⟨S4x3x48x48x48, .f32⟩ : BufTy).Contents (Elt Ideal)) (main_arg3 : (⟨S4x1x24x24x24, .f32⟩ : BufTy).Contents (Elt Ideal)) (main_arg4 : (⟨S4x3x24x24x24, .f32⟩ : BufTy).Contents (Elt Ideal)) (main_arg5 : (⟨S4x3x24x24x24, .f32⟩ : BufTy).Contents (Elt Ideal))

/-- The state before the first trip. -/
theorem at_init : At (init (F := Ideal) main_arg0 main_arg1 main_arg2 main_arg3 main_arg4 main_arg5)
    (argsOf main_arg0 main_arg1 main_arg2 main_arg3 main_arg4 main_arg5).cnd 0 where
  sc := fun b l => by rw [init_0]; exact v74_apply main_arg0 main_arg1 main_arg2 main_arg3 main_arg4 main_arg5 b l
  bx := fun b l d => by rw [init_1]; exact v80_apply main_arg0 main_arg1 main_arg2 main_arg3 main_arg4 main_arg5 b l d
  al := fun b l => by rw [init_5]; exact v84_apply main_arg0 main_arg1 main_arg2 main_arg3 main_arg4 main_arg5 b l
  det := fun b r q => by
    rw [if_neg (Nat.not_lt_zero _), init_4]
    unfold K_main_v82 K_main_v81 K_main_cst_9
    simp only [pointwise]

/-- The states of the loop. -/
def stateOf : ℕ → State Ideal
  | 0 => init (F := Ideal) main_arg0 main_arg1 main_arg2 main_arg3 main_arg4 main_arg5
  | n + 1 => step n (stateOf n)

theorem at_stateOf (n : ℕ) (hn : n < 2147483648) :
    At (stateOf main_arg0 main_arg1 main_arg2 main_arg3 main_arg4 main_arg5 n) (argsOf main_arg0 main_arg1 main_arg2 main_arg3 main_arg4 main_arg5).cnd n := by
  induction n with
  | zero => exact at_init main_arg0 main_arg1 main_arg2 main_arg3 main_arg4 main_arg5
  | succ n ih => exact (ih (by omega)).next (by omega)

/-- The table the loop leaves. -/
theorem ref_det (b : Fin 4) (r : Fin 120) (q : Fin 8) :
    (stateOf main_arg0 main_arg1 main_arg2 main_arg3 main_arg4 main_arg5 20).main_v85_4 (ix3 b r q)
      = detOf (argsOf main_arg0 main_arg1 main_arg2 main_arg3 main_arg4 main_arg5) b r q :=
  (at_stateOf main_arg0 main_arg1 main_arg2 main_arg3 main_arg4 main_arg5 20 (by decide)).det b r q

end Cert.Proof

end
-- ==== Proof.NmsLoop.lean ====
/-
  The suppression loops of the kernel. Each of the four images runs one loop of twenty rounds over a row of 128
  candidate lanes; the four loops differ only in how their values are grouped, so each is read here as the same
  recursion over the candidates' fields (`Fld`): the scores still standing (`cur`) and the output row of a round
  (`nmsRow`). The rows a loop writes, and what the output block reads after them, follow (`rowPieces`).
-/
module

public import proofs.«01_k».proof.Proof.Gen.KernelIdeal.Frame
public import Idealize.ShloMosaic.Lib.Pipeline.Value
public import Idealize.ShloMosaic.Lib.Pointwise.Index

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen

variable {F : FTy → Type} [FloatOps F] [Named F]

/-- The fields of one image's candidates, lane by lane: box centre, box size, score, volume, and the low and high
    corner on each axis. -/
structure Fld (F : FTy → Type) where
  cz : FVec F S1x128 .f32
  cy : FVec F S1x128 .f32
  cx : FVec F S1x128 .f32
  sz : FVec F S1x128 .f32
  sy : FVec F S1x128 .f32
  sx : FVec F S1x128 .f32
  score : FVec F S1x128 .f32
  vol : FVec F S1x128 .f32
  loz : FVec F S1x128 .f32
  hiz : FVec F S1x128 .f32
  loy : FVec F S1x128 .f32
  hiy : FVec F S1x128 .f32
  lox : FVec F S1x128 .f32
  hix : FVec F S1x128 .f32

/-- The standing scores after one round, from those before it. -/
def nmsNext (lane : IVec S1x128 32) (f : Fld F) (acc : FVec F S1x128 .f32) : FVec F S1x128 .f32 :=
  k0_pay77 acc (k0_pay66 lane acc)
    (k0_pay75 f.vol f.loz f.hiz f.loy f.hiy f.lox f.hix (k0_pay69 lane f.cz acc) (k0_pay70 lane f.cy acc)
      (k0_pay71 lane f.cx acc) (k0_pay72 lane f.sz acc) (k0_pay73 lane f.sy acc) (k0_pay74 lane f.sx acc)
      (Scalar.ofBits .f32 0x3F000000#32))
    k0_pay76

/-- The output row of one round, from the standing scores before it. -/
def nmsRow (lane : IVec S1x128 32) (lane8 : IVec S1x8 32) (f : Fld F) (acc : FVec F S1x128 .f32) : FVec F S1x1x8 .f32 :=
  k0_pay2 (k0_pay78 lane8 (k0_pay67 acc) (k0_pay68 lane f.score acc) (k0_pay69 lane f.cz acc) (k0_pay70 lane f.cy acc)
    (k0_pay71 lane f.cx acc) (k0_pay72 lane f.sz acc) (k0_pay73 lane f.sy acc) (k0_pay74 lane f.sx acc))

/-- The standing scores before round `k`. -/
def cur (lane : IVec S1x128 32) (f : Fld F) (init : FVec F S1x128 .f32) : ℕ → FVec F S1x128 .f32
  | 0 => init
  | k + 1 => nmsNext lane f (cur lane f init k)

/-- The rows the first `k` rounds of a loop of `n` write, last first. -/
def rowPieces {n : ℕ} (off : Fin n → Fin 3 → ℕ) (inb : ∀ k a, off k a + S1x1x8.size a ≤ S4x120x8.size a)
    (row : ℕ → FVec F S1x1x8 .f32) : ℕ → List (View.Piece (Elt F) S4x120x8 .f32)
  | 0 => []
  | k + 1 => if h : k < n then ⟨Rect.unit (s := S4x120x8) (off ⟨k, h⟩) S1x1x8.size (inb ⟨k, h⟩), row k⟩ :: rowPieces off inb row k
      else rowPieces off inb row k

/-- What the output block reads at an entry of image `b`'s first `k` rows, once those rows are written over `L`. -/
theorem canon_rowPieces_hit {n : ℕ} (off : Fin n → Fin 3 → ℕ) (inb) (row : ℕ → FVec F S1x1x8 .f32) (b : ℕ)
    (hoff : ∀ k, off k = ![b, k.val, 0]) (L : List (View.Piece (Elt F) S4x120x8 .f32)) (y : S4x120x8.Idx) (hb : (y 0).val = b) :
    ∀ k, k ≤ n → (y 1).val < k →
      View.canon (rowPieces off inb row k ++ L) y = row (y 1).val (ix3 0 0 (y 2))
  | 0, _, h => absurd h (Nat.not_lt_zero _)
  | k + 1, hk, h => by
    have hkn : k < n := hk
    rw [rowPieces, dif_pos hkn, List.cons_append]
    by_cases e : (y 1).val = k
    · have hy : y = (Rect.unit (s := S4x120x8) (off ⟨k, hkn⟩) S1x1x8.size (inb ⟨k, hkn⟩)).emb (ix3 0 0 (y 2)) := by
        funext a
        apply Fin.ext
        rw [Rect.emb_apply, Rect.off_unit, Rect.stride_unit, Nat.one_mul]
        refine Eq.trans ?_ (congrArg (fun o : Fin 3 → ℕ => o a + _) (hoff ⟨k, hkn⟩)).symm
        match a with
        | ⟨0, _⟩ => show (y 0).val = b + 0; omega
        | ⟨1, _⟩ => show (y 1).val = k + 0; omega
        | ⟨2, _⟩ => show (y 2).val = 0 + (y 2).val; omega
      conv_lhs => rw [hy]
      rw [View.canon_cons_emb, e]
    · rw [View.canon_cons_of_not_mem]
      · exact canon_rowPieces_hit off inb row b hoff L y hb k (Nat.le_of_succ_le hk) (by omega)
      · intro hm
        have := (Rect.mem_set_unit (inb := inb ⟨k, hkn⟩).mp hm) (1 : Fin 3)
        rw [hoff] at this
        have h1 : k ≤ (y 1).val ∧ (y 1).val < k + 1 := this
        omega

/-- At any other entry those rows leave what was there. -/
theorem canon_rowPieces_miss {n : ℕ} (off : Fin n → Fin 3 → ℕ) (inb) (row : ℕ → FVec F S1x1x8 .f32) (b : ℕ)
    (hoff : ∀ k, off k = ![b, k.val, 0]) (L : List (View.Piece (Elt F) S4x120x8 .f32)) (y : S4x120x8.Idx) :
    ∀ k, k ≤ n → ¬ ((y 0).val = b ∧ (y 1).val < k) → View.canon (rowPieces off inb row k ++ L) y = View.canon L y
  | 0, _, _ => rfl
  | k + 1, hk, h => by
    have hkn : k < n := hk
    rw [rowPieces, dif_pos hkn, List.cons_append, View.canon_cons_of_not_mem]
    · exact canon_rowPieces_miss off inb row b hoff L y k (Nat.le_of_succ_le hk) (by omega)
    · intro hm
      have h0 := (Rect.mem_set_unit (inb := inb ⟨k, hkn⟩).mp hm) (0 : Fin 3)
      have h1 := (Rect.mem_set_unit (inb := inb ⟨k, hkn⟩).mp hm) (1 : Fin 3)
      rw [hoff] at h0 h1
      have h0 : b ≤ (y 0).val ∧ (y 0).val < b + 1 := h0
      have h1 : k ≤ (y 1).val ∧ (y 1).val < k + 1 := h1
      omega

section Loops

variable (𝒱 : Variants) (c : Dev nD) (bd : Option 𝒱.V)
  (arg0 : Memref sig .tc .vmem S4x864x128 .f32) (harg0 : arg0.IsWhole)
  (arg1 : Memref sig .tc .vmem S4x3x864x128 .f32) (harg1 : arg1.IsWhole)
  (arg2 : Memref sig .tc .vmem S4x3x864x128 .f32) (harg2 : arg2.IsWhole)
  (arg3 : Memref sig .tc .vmem S4x108x128 .f32) (harg3 : arg3.IsWhole)
  (arg4 : Memref sig .tc .vmem S4x3x108x128 .f32) (harg4 : arg4.IsWhole)
  (arg5 : Memref sig .tc .vmem S4x3x108x128 .f32) (harg5 : arg5.IsWhole)
  (arg6 : Memref sig .tc .vmem S4x120x8 .f32) (harg6 : arg6.IsWhole)
  (arg7 : Memref sig .tc .vmem S4x864x128 .f32) (harg7 : arg7.IsWhole)
  (arg8 : Memref sig .tc .vmem S4x108x128 .f32) (harg8 : arg8.IsWhole)

/-- Image 0's loop is the recursion over its candidates' fields. -/
theorem st3_eq (v45_0 : FVec F S4x1x128 .f32) (v45_2 : IVec S4x128x1 32) (v49 : IVec S1x128 32) (v55 : IVec S1x8 32)
    (v122 v138 v154 v186 v202 v209 : FVec F S1x128 .f32) (v263 v265 : IVec S1x128 32) (v268 init : FVec F S1x128 .f32)
    (f : Fld F)
    (hf : f = ⟨v268, k0_pay121 v186 v209 v263, k0_pay122 v202 v209 v265, k0_pay123 v122 v209, k0_pay124 v138 v209,
      k0_pay125 v154 v209, k0_pay126 v45_0, k0_pay127 v122 v138 v154 v209, k0_pay128 v122 v209 v268, k0_pay129 v122 v209 v268,
      k0_pay130 v138 v186 v209 v263, k0_pay131 v138 v186 v209 v263, k0_pay132 v154 v202 v209 v265, k0_pay133 v154 v202 v209 v265⟩) :
    ∀ k, k ≤ k0_t3_loop.trips →
    st_k0_t3 (F := F) 𝒱 c bd arg0 harg0 arg1 harg1 arg2 harg2 arg3 harg3 arg4 harg4 arg5 harg5 arg6 harg6 arg7 harg7 arg8 harg8
      v45_0 v45_2 v49 v55 v122 v138 v154 v186 v202 v209 v263 v265 v268 init k
      = (cur v49 f init k, rowPieces k0_off1 k0_off1_inb (fun j => nmsRow v49 v55 f (cur v49 f init j)) k)
  | 0, _ => rfl
  | k + 1, hk => by
    have ih := st3_eq v45_0 v45_2 v49 v55 v122 v138 v154 v186 v202 v209 v263 v265 v268 init f hf k (Nat.le_of_succ_le hk)
    rw [st_k0_t3_succ (F := F) 𝒱 c bd arg0 harg0 arg1 harg1 arg2 harg2 arg3 harg3 arg4 harg4 arg5 harg5 arg6 harg6 arg7 harg7
      arg8 harg8 v45_0 v45_2 v49 v55 v122 v138 v154 v186 v202 v209 v263 v265 v268 init ⟨k, hk⟩]
    dsimp only
    rw [ih, cur, rowPieces, dif_pos (show k < k0_t3_loop.trips from hk)]
    unfold tripR_k0_t3 tripL_k0_t3 trip_k0_t3
    subst hf
    rfl

/-- Image 1's loop is the recursion over its candidates' fields. -/
theorem st4_eq (v45_2 : IVec S4x128x1 32) (v48 : IVec S128x1 32) (v49 : IVec S1x128 32) (v53 : IVec S128x864 32) (v55 : IVec S1x8 32)
    (v524 v527 v530 v533 v536 v539 v541 v543 v546 v549 v552 v554 init : FVec F S1x128 .f32)
    (f : Fld F)
    (hf : f = ⟨v524, v527, v530, v533, v536, v539, v541, v543, v546, v549, v552, k0_pay172 v527 v554, k0_pay173 v530 v539,
      k0_pay174 v530 v539⟩) :
    ∀ k, k ≤ k0_t4_loop.trips →
    st_k0_t4 (F := F) 𝒱 c bd arg0 harg0 arg1 harg1 arg2 harg2 arg3 harg3 arg4 harg4 arg5 harg5 arg6 harg6 arg7 harg7 arg8 harg8
      v45_2 v48 v49 v53 v55 v524 v527 v530 v533 v536 v539 v541 v543 v546 v549 v552 v554 init k
      = (cur v49 f init k, rowPieces k0_off2 k0_off2_inb (fun j => nmsRow v49 v55 f (cur v49 f init j)) k)
  | 0, _ => rfl
  | k + 1, hk => by
    have ih := st4_eq v45_2 v48 v49 v53 v55 v524 v527 v530 v533 v536 v539 v541 v543 v546 v549 v552 v554 init f hf k
      (Nat.le_of_succ_le hk)
    rw [st_k0_t4_succ (F := F) 𝒱 c bd arg0 harg0 arg1 harg1 arg2 harg2 arg3 harg3 arg4 harg4 arg5 harg5 arg6 harg6 arg7 harg7
      arg8 harg8 v45_2 v48 v49 v53 v55 v524 v527 v530 v533 v536 v539 v541 v543 v546 v549 v552 v554 init ⟨k, hk⟩]
    dsimp only
    rw [ih, cur, rowPieces, dif_pos (show k < k0_t4_loop.trips from hk)]
    unfold tripR_k0_t4 tripL_k0_t4 trip_k0_t4
    subst hf
    rfl

/-- Image 2's loop is the recursion over its candidates' fields. -/
theorem st5_eq (v45_0 : FVec F S4x1x128 .f32) (v45_2 : IVec S4x128x1 32) (v49 : IVec S1x128 32) (v55 : IVec S1x8 32)
    (v666 v721 v780 v783 v786 v789 v792 init : FVec F S1x128 .f32) (f : Fld F)
    (hf : f = ⟨v780, v783, v786, v789, v792, k0_pay207 v666 v721, k0_pay208 v45_0, k0_pay209 v666 v721 v789 v792,
      k0_pay210 v780 v789, k0_pay211 v780 v789, k0_pay212 v783 v792, k0_pay213 v783 v792, k0_pay214 v666 v721 v786,
      k0_pay215 v666 v721 v786⟩) :
    ∀ k, k ≤ k0_t5_loop.trips →
    st_k0_t5 (F := F) 𝒱 c bd arg0 harg0 arg1 harg1 arg2 harg2 arg3 harg3 arg4 harg4 arg5 harg5 arg6 harg6 arg7 harg7 arg8 harg8
      v45_0 v45_2 v49 v55 v666 v721 v780 v783 v786 v789 v792 init k
      = (cur v49 f init k, rowPieces k0_off3 k0_off3_inb (fun j => nmsRow v49 v55 f (cur v49 f init j)) k)
  | 0, _ => rfl
  | k + 1, hk => by
    have ih := st5_eq v45_0 v45_2 v49 v55 v666 v721 v780 v783 v786 v789 v792 init f hf k (Nat.le_of_succ_le hk)
    rw [st_k0_t5_succ (F := F) 𝒱 c bd arg0 harg0 arg1 harg1 arg2 harg2 arg3 harg3 arg4 harg4 arg5 harg5 arg6 harg6 arg7 harg7
      arg8 harg8 v45_0 v45_2 v49 v55 v666 v721 v780 v783 v786 v789 v792 init ⟨k, hk⟩]
    dsimp only
    rw [ih, cur, rowPieces, dif_pos (show k < k0_t5_loop.trips from hk)]
    unfold tripR_k0_t5 tripL_k0_t5 trip_k0_t5
    subst hf
    rfl

/-- Image 3's loop is the recursion over its candidates' fields. -/
theorem st6_eq (v49 : IVec S1x128 32) (v55 : IVec S1x8 32)
    (v1036 v1039 v1042 v1045 v1048 v1051 v1053 v1055 v1058 v1061 v1064 v1067 v1070 v1073 init : FVec F S1x128 .f32) (f : Fld F)
    (hf : f = ⟨v1036, v1039, v1042, v1045, v1048, v1051, v1053, v1055, v1058, v1061, v1064, v1067, v1070, v1073⟩) :
    ∀ k, k ≤ k0_t6_loop.trips →
    st_k0_t6 (F := F) 𝒱 c bd arg0 harg0 arg1 harg1 arg2 harg2 arg3 harg3 arg4 harg4 arg5 harg5 arg6 harg6 arg7 harg7 arg8 harg8
      v49 v55 v1036 v1039 v1042 v1045 v1048 v1051 v1053 v1055 v1058 v1061 v1064 v1067 v1070 v1073 init k
      = (cur v49 f init k, rowPieces k0_off4 k0_off4_inb (fun j => nmsRow v49 v55 f (cur v49 f init j)) k)
  | 0, _ => rfl
  | k + 1, hk => by
    have ih := st6_eq v49 v55 v1036 v1039 v1042 v1045 v1048 v1051 v1053 v1055 v1058 v1061 v1064 v1067 v1070 v1073 init f hf k
      (Nat.le_of_succ_le hk)
    rw [st_k0_t6_succ (F := F) 𝒱 c bd arg0 harg0 arg1 harg1 arg2 harg2 arg3 harg3 arg4 harg4 arg5 harg5 arg6 harg6 arg7 harg7
      arg8 harg8 v49 v55 v1036 v1039 v1042 v1045 v1048 v1051 v1053 v1055 v1058 v1061 v1064 v1067 v1070 v1073 init ⟨k, hk⟩]
    dsimp only
    rw [ih, cur, rowPieces, dif_pos (show k < k0_t6_loop.trips from hk)]
    unfold tripR_k0_t6 tripL_k0_t6 trip_k0_t6
    subst hf
    rfl

end Loops

end Cert.Proof

end
-- ==== Proof.Fields.lean ====
/-
  The fields of an image's candidates, as the kernel computes them from a row of positions: one definition for every image,
  and its values at extended reals, lane by lane.
-/
module

public import proofs.«01_k».proof.Proof.Words
public import proofs.«01_k».proof.Proof.NmsLoop

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen

/-- The lanes' numbers, along the axes the kernel wants them. -/
def lane48 : IVec S128x1 32 := iota .tc S128x1 32 [0] iota_S128x1_d0_w32
def lane49 : IVec S1x128 32 := iota .tc S1x128 32 [1] iota_S1x128_d1_w32
def lane53 : IVec S128x864 32 := iota .tc S128x864 32 [1] iota_S128x864_d1_w32
def lane54 : IVec S128x108 32 := iota .tc S128x108 32 [1] iota_S128x108_d1_w32

theorem lane48_apply (l : Fin 128) (j : Fin 1) : lane48 (ix2 l j) = BitVec.ofNat 32 l.val := by
  rw [lane48, iota_single_apply]; rfl
theorem lane49_apply (l : Fin 128) (j : Fin 1) : lane49 (ix2 j l) = BitVec.ofNat 32 l.val := by
  rw [lane49, iota_single_apply]; rfl
theorem lane53_apply (l : Fin 128) (j : Fin 864) : lane53 (ix2 l j) = BitVec.ofNat 32 j.val := by
  rw [lane53, iota_single_apply]; rfl
theorem lane54_apply (l : Fin 128) (j : Fin 108) : lane54 (ix2 l j) = BitVec.ofNat 32 j.val := by
  rw [lane54, iota_single_apply]; rfl
theorem eye_apply (k l : Fin 128) : k0_pay90 (ix2 k l) = if k.val = l.val then 1#1 else 0#1 := by
  have hk := k.isLt
  have hl := l.isLt
  unfold k0_pay90
  show IntOp.cmpi .eq (iota .tc S128x128 32 [0] iota_S128x128_d0_w32 (ix2 k l)) (iota .tc S128x128 32 [1] iota_S128x128_d1_w32 (ix2 k l)) = _
  rw [iota_single_apply, iota_single_apply]
  exact eq_word k.val l.val (by omega) (by omega)

variable {F : FTy → Type} [FloatOps F] [Named F]

/-- What an image's candidates are computed from: the positions and their lanes down the rows, the positions and the scores
    along the lanes, and the image's six planes of each level. -/
structure Src (F : FTy → Type) where
  s : IVec S128x1 32
  ln : IVec S128x1 32
  g : IVec S1x128 32
  v : FVec F S1x128 .f32
  a0 : Vec F S1x1x864x128 .f32
  a1 : Vec F S1x1x864x128 .f32
  a2 : Vec F S1x1x864x128 .f32
  o0 : Vec F S1x1x864x128 .f32
  o1 : Vec F S1x1x864x128 .f32
  o2 : Vec F S1x1x864x128 .f32
  b0 : Vec F S1x1x108x128 .f32
  b1 : Vec F S1x1x108x128 .f32
  b2 : Vec F S1x1x108x128 .f32
  p0 : Vec F S1x1x108x128 .f32
  p1 : Vec F S1x1x108x128 .f32
  p2 : Vec F S1x1x108x128 .f32

/-- One where the column is the position's lane. -/
def lmask (ln : IVec S128x1 32) : FVec F S128x128 .f32 :=
  select (cmpi .eq (broadcastTo S128x128 lane49 broadcasts_S1x128_S128x128) (broadcastTo S128x128 ln broadcasts_S128x1_S128x128))
    (broadcast S128x128 (Scalar.ofBits .f32 0x3F800000#32)) (broadcast S128x128 (Scalar.ofBits .f32 0x00000000#32))

/-- The entries of a plane at the positions. -/
def comp (s ln : IVec S128x1 32) (a : Vec F S1x1x864x128 .f32) (b : Vec F S1x1x108x128 .f32) : FVec F S1x128 .f32 :=
  k0_pay102 k0_pay90 (k0_pay139 lane48 lane53 s) (k0_pay140 lane48 lane54 s) (lmask ln) a b

/-- The first, second and third coordinate of the positions. -/
def crdZ (g : IVec S1x128 32) : IVec S1x128 32 := k0_pay155 lane49 g
def crdY (g : IVec S1x128 32) : IVec S1x128 32 :=
  k0_pay159 (k0_pay154 lane49) (k0_pay156 lane49 g) (k0_pay157 lane49 g) (k0_pay158 lane49 g) 0#32
def crdX (g : IVec S1x128 32) : IVec S1x128 32 := subi (k0_pay156 lane49 g) (muli (crdY g) (k0_pay154 lane49))

/-- A centre, a size, and a size halved. -/
def ctr (o : FVec F S1x128 .f32) (z : IVec S1x128 32) : FVec F S1x128 .f32 := k0_pay121 o (k0_pay111 lane49) z
def siz (a : FVec F S1x128 .f32) : FVec F S1x128 .f32 := k0_pay123 a (k0_pay111 lane49)
def half (a : FVec F S1x128 .f32) : FVec F S1x128 .f32 := mulf a (broadcast S1x128 (Scalar.ofBits .f32 0x3F000000#32))

/-- The fields of an image's candidates. -/
def Src.fld (S : Src F) : Fld F where
  cz := ctr (comp S.s S.ln S.o0 S.p0) (crdZ S.g)
  cy := ctr (comp S.s S.ln S.o1 S.p1) (crdY S.g)
  cx := ctr (comp S.s S.ln S.o2 S.p2) (crdX S.g)
  sz := siz (comp S.s S.ln S.a0 S.b0)
  sy := siz (comp S.s S.ln S.a1 S.b1)
  sx := siz (comp S.s S.ln S.a2 S.b2)
  score := S.v
  vol := mulf (mulf (siz (comp S.s S.ln S.a0 S.b0)) (siz (comp S.s S.ln S.a1 S.b1))) (siz (comp S.s S.ln S.a2 S.b2))
  loz := subf (ctr (comp S.s S.ln S.o0 S.p0) (crdZ S.g)) (half (siz (comp S.s S.ln S.a0 S.b0)))
  hiz := addf (ctr (comp S.s S.ln S.o0 S.p0) (crdZ S.g)) (half (siz (comp S.s S.ln S.a0 S.b0)))
  loy := subf (ctr (comp S.s S.ln S.o1 S.p1) (crdY S.g)) (half (siz (comp S.s S.ln S.a1 S.b1)))
  hiy := addf (ctr (comp S.s S.ln S.o1 S.p1) (crdY S.g)) (half (siz (comp S.s S.ln S.a1 S.b1)))
  lox := subf (ctr (comp S.s S.ln S.o2 S.p2) (crdX S.g)) (half (siz (comp S.s S.ln S.a2 S.b2)))
  hix := addf (ctr (comp S.s S.ln S.o2 S.p2) (crdX S.g)) (half (siz (comp S.s S.ln S.a2 S.b2)))

/-- The standing scores at the start: those above the threshold. -/
def Src.ini (S : Src F) : FVec F S1x128 .f32 :=
  select (cmpf .ogt S.v (broadcast S1x128 (Scalar.ofBits .f32 0x3E19999A#32))) S.v
    (broadcast S1x128 (Named.named κ "neg" 0xF149F2CA#32))

section Values

/-- A sum over the rows of a row's selection is the row's term. -/
theorem comp_row (s ln : IVec S128x1 32) (a : Vec Ideal S1x1x864x128 .f32) (b : Vec Ideal S1x1x108x128 .f32) (l : Fin 128)
    (t : ℕ) (ht : t < 2147483648) (hs : s (ix2 l 0) = BitVec.ofNat 32 t) (hl : ln (ix2 l 0) = BitVec.ofNat 32 (t % 128)) :
    comp s ln a b (ix2 0 l)
      = (∑ i : Fin 864, (if t / 128 = i.val ∧ l.val < 60 then a (ix4 0 0 i ⟨t % 128, by omega⟩) else 0))
        + ∑ i : Fin 108, (if t / 128 = i.val ∧ 60 ≤ l.val then b (ix4 0 0 i ⟨t % 128, by omega⟩) else 0) := by
  have hll := l.isLt
  have hfl : ∀ q : BitVec 32, q = BitVec.ofNat 32 t → floorWord q 128#32 = BitVec.ofNat 32 (t / 128) := fun q h => by
    rw [h]; exact floorWord_eq t 128 ht (by decide) (by decide)
  have hm : ∀ j : Fin 128, lmask (F := Ideal) ln (ix2 l j) = if j = ⟨t % 128, by omega⟩ then 1 else 0 := fun j => by
    have hj := j.isLt
    unfold lmask
    simp only [pointwise, Nat.reduceEqDiff, ↓reduceDIte, lane49_apply, hl]
    rw [select_word_eq _ _ (by omega) (by omega)]
    simp only [Fin.ext_iff]
  have hr : k0_pay137 s (ix2 l 0) = BitVec.ofNat 32 (t / 128) := by
    rw [← hfl _ hs]
    unfold k0_pay137
    simp only [pointwise, Nat.reduceEqDiff, ↓reduceDIte]
    rfl
  have h1 : ∀ i : Fin 864, k0_pay139 (F := Ideal) lane48 lane53 s (ix2 l i) = if t / 128 = i.val ∧ l.val < 60 then 1 else 0 := fun i => by
    have hi := i.isLt
    unfold k0_pay139 k0_pay138
    simp only [pointwise, Nat.reduceEqDiff, ↓reduceDIte, lane53_apply, lane48_apply, hr]
    rw [sge60_word l.val hll, eq_word _ _ (by omega) (by omega)]
    by_cases e : 60 ≤ l.val <;> by_cases e' : i.val = t / 128 <;>
      simp [e, e', eq_comm, Scalar.select, IntOp.andi, IntOp.xori, Nat.not_lt.mpr, Nat.lt_of_not_le]
  have h2 : ∀ i : Fin 108, k0_pay140 (F := Ideal) lane48 lane54 s (ix2 l i) = if t / 128 = i.val ∧ 60 ≤ l.val then 1 else 0 := fun i => by
    have hi := i.isLt
    unfold k0_pay140 k0_pay138
    simp only [pointwise, Nat.reduceEqDiff, ↓reduceDIte, lane54_apply, lane48_apply, hr]
    rw [sge60_word l.val hll, eq_word _ _ (by omega) (by omega)]
    by_cases e : 60 ≤ l.val <;> by_cases e' : i.val = t / 128 <;>
      simp [e, e', eq_comm, Scalar.select, IntOp.andi, IntOp.xori]
  have hsel : ∀ (k : Fin 128) (x : EReal), Scalar.select (k0_pay90 (ix2 k l)) x 0 = if k = l then x else 0 := fun k x => by
    rw [eye_apply]
    by_cases e : k = l
    · subst e; simp [Scalar.select]
    · have : ¬ k.val = l.val := fun h => e (Fin.ext h)
      simp [Scalar.select, e, this]
  unfold comp k0_pay102
  simp only [pointwise, Nat.reduceEqDiff, ↓reduceDIte, hsel, Finset.sum_ite_eq', Finset.mem_univ, if_true, hm, h1, h2, mul_ite, mul_one, mul_zero, ite_mul,
    one_mul, zero_mul, zero_add]

/-- In a lane of the first level it is the first plane's entry at the position. -/
theorem comp_lo (s ln : IVec S128x1 32) (a : Vec Ideal S1x1x864x128 .f32) (b : Vec Ideal S1x1x108x128 .f32) (l : Fin 128)
    (h : l.val < 60) (t : Fin 110592) (hs : s (ix2 l 0) = BitVec.ofNat 32 t.val) (hl : ln (ix2 l 0) = BitVec.ofNat 32 (t.val % 128)) :
    comp s ln a b (ix2 0 l) = a (ix4 0 0 ⟨t.val / 128, by have := t.isLt; omega⟩ ⟨t.val % 128, by omega⟩) := by
  have ht := t.isLt
  rw [comp_row s ln a b l t.val (by omega) hs hl]
  have hn : ¬ 60 ≤ l.val := by omega
  simp only [h, hn, and_true, and_false, if_false, Finset.sum_const_zero, add_zero]
  have e : ∀ i : Fin 864, (t.val / 128 = i.val) = ((⟨t.val / 128, by omega⟩ : Fin 864) = i) := fun i => by
    rw [Fin.ext_iff]
  simp only [e, Finset.sum_ite_eq, Finset.mem_univ, if_true]

/-- In a later lane it is the second plane's. -/
theorem comp_hi (s ln : IVec S128x1 32) (a : Vec Ideal S1x1x864x128 .f32) (b : Vec Ideal S1x1x108x128 .f32) (l : Fin 128)
    (h : 60 ≤ l.val) (t : Fin 13824) (hs : s (ix2 l 0) = BitVec.ofNat 32 t.val) (hl : ln (ix2 l 0) = BitVec.ofNat 32 (t.val % 128)) :
    comp s ln a b (ix2 0 l) = b (ix4 0 0 ⟨t.val / 128, by have := t.isLt; omega⟩ ⟨t.val % 128, by omega⟩) := by
  have ht := t.isLt
  rw [comp_row s ln a b l t.val (by omega) hs hl]
  have hn : ¬ l.val < 60 := by omega
  simp only [h, hn, and_true, and_false, if_false, Finset.sum_const_zero, zero_add]
  have e : ∀ i : Fin 108, (t.val / 128 = i.val) = ((⟨t.val / 128, by omega⟩ : Fin 108) = i) := fun i => by
    rw [Fin.ext_iff]
  simp only [e, Finset.sum_ite_eq, Finset.mem_univ, if_true]

/-- A lane's side length, and its square. -/
def side (l : Fin 128) : ℕ := if 60 ≤ l.val then 24 else 48

theorem crd_apply (g : IVec S1x128 32) (l : Fin 128) (t : ℕ) (ht : t < 2147483648) (hg : g (ix2 0 l) = BitVec.ofNat 32 t) :
    crdZ g (ix2 0 l) = BitVec.ofNat 32 (t / (side l * side l))
    ∧ crdY g (ix2 0 l) = BitVec.ofNat 32 (t % (side l * side l) / side l)
    ∧ crdX g (ix2 0 l) = BitVec.ofNat 32 (t % side l) := by
  have hll := l.isLt
  have hside : 0 < side l ∧ side l < 100 := by unfold side; split <;> decide
  have hsq : 0 < side l * side l ∧ side l * side l < 10000 := by unfold side; split <;> decide
  have hw : k0_pay154 lane49 (ix2 0 l) = BitVec.ofNat 32 (side l) := by
    unfold k0_pay154 k0_pay151
    simp only [pointwise, Nat.reduceEqDiff, ↓reduceDIte, lane49_apply]
    rw [sge60_word l.val hll]
    by_cases e : 60 ≤ l.val <;> simp [e, Scalar.select, side]
  have hhw : k0_pay153 lane49 (ix2 0 l) = BitVec.ofNat 32 (side l * side l) := by
    unfold k0_pay153 k0_pay151
    simp only [pointwise, Nat.reduceEqDiff, ↓reduceDIte, lane49_apply]
    rw [sge60_word l.val hll]
    by_cases e : 60 ≤ l.val <;> simp [e, Scalar.select, side]
  have hz : k0_pay155 lane49 g (ix2 0 l) = BitVec.ofNat 32 (t / (side l * side l)) := by
    rw [← floorWord_eq t (side l * side l) ht hsq.1 (by omega), ← hhw, ← hg]
    unfold k0_pay155
    simp only [pointwise, Nat.reduceEqDiff, ↓reduceDIte]
    rfl
  have hr : k0_pay156 lane49 g (ix2 0 l) = BitVec.ofNat 32 (t % (side l * side l)) := by
    unfold k0_pay156
    simp only [pointwise, Nat.reduceEqDiff, ↓reduceDIte, hz, hhw, hg]
    rw [mul_word, sub_word _ _ (Nat.div_mul_le_self _ _)]
    congr 1
    have := Nat.div_add_mod t (side l * side l)
    rw [Nat.mul_comm] at this
    omega
  have hm := Nat.mod_lt t hsq.1
  have hy : crdY g (ix2 0 l) = BitVec.ofNat 32 (t % (side l * side l) / side l) := by
    rw [← floorWord_eq (t % (side l * side l)) (side l) (by omega) hside.1 (by omega), ← hw, ← hr]
    unfold crdY k0_pay159 k0_pay157 k0_pay158
    simp only [pointwise, Nat.reduceEqDiff, ↓reduceDIte]
    rfl
  refine ⟨hz, hy, ?_⟩
  unfold crdX
  simp only [pointwise, Nat.reduceEqDiff, ↓reduceDIte, hr, hy, hw]
  rw [mul_word, sub_word _ _ (Nat.div_mul_le_self _ _), ← Nat.mod_mod_of_dvd t (Dvd.intro _ rfl : side l ∣ side l * side l)]
  congr 1
  have := Nat.div_add_mod (t % (side l * side l)) (side l)
  rw [Nat.mul_comm] at this
  omega

end Values

end Cert.Proof

end
-- ==== Proof.ImgWords.lean ====
/-
  The pieces the kernel's run leaves in its output, each image's loop over the fields of its own candidates: the same
  definition of the fields at each of the four images.
-/
module

public import proofs.«01_k».proof.Proof.Fields

@[expose] public section

set_option maxRecDepth 16384
set_option maxHeartbeats 4000000

noncomputable section

namespace Cert.Proof

open Idealize.ShloMosaic Idealize.ShloMosaic.TcCoe Idealize.SL.Sem Cert.KernelIdeal Cert.KernelIdeal.Gen

variable {F : FTy → Type} [FloatOps F] [Named F]

/-- An image's part of a carried vector. -/
def slS {α : Type} (off : Fin 3 → ℕ) (v : S4x128x1.Idx → α) (h : S4x128x1.Slices off S1x128x1) : S128x1.Idx → α :=
  shapeCast S128x1 (extractStridedSlice S1x128x1 off v h) shapeCasts_S1x128x1_S128x1
def slL {α : Type} (off : Fin 3 → ℕ) (v : S4x1x128.Idx → α) (h : S4x1x128.Slices off S1x1x128) : S1x128.Idx → α :=
  shapeCast S1x128 (extractStridedSlice S1x1x128 off v h) shapeCasts_S1x1x128_S1x128

theorem slS_ok {b : ℕ} (hb : b < 4) : S4x128x1.Slices ![b, 0, 0] S1x128x1 :=
  ⟨rfl, fun a => by fin_cases a <;> simp [S4x128x1, S1x128x1] <;> omega⟩
theorem slL_ok {b : ℕ} (hb : b < 4) : S4x1x128.Slices ![b, 0, 0] S1x1x128 :=
  ⟨rfl, fun a => by fin_cases a <;> simp [S4x1x128, S1x1x128] <;> omega⟩

theorem pl1_ok {b d : ℕ} (hb : b < 4) (hd : d < 3) (a) : (![b, d, 0, 0] : Fin 4 → ℕ) a + S1x1x864x128.size a ≤ S4x3x864x128.size a := by
  fin_cases a <;> simp [S1x1x864x128, S4x3x864x128] <;> omega
theorem pl2_ok {b d : ℕ} (hb : b < 4) (hd : d < 3) (a) : (![b, d, 0, 0] : Fin 4 → ℕ) a + S1x1x108x128.size a ≤ S4x3x108x128.size a := by
  fin_cases a <;> simp [S1x1x108x128, S4x3x108x128] <;> omega

/-- A plane of an input, as loaded. -/
def pl1 (arg : Memref sig .tc .vmem S4x3x864x128 .f32) (harg : arg.IsWhole) (x : Vec F S4x3x864x128 .f32) (b d : ℕ) (hb : b < 4) (hd : d < 3) :
    Vec F S1x1x864x128 .f32 :=
  View.readAt (Elt F) arg.view (Rect.unit (s := S4x3x864x128) ![b, d, 0, 0] S1x1x864x128.size (pl1_ok hb hd)).toLoadRect (harg.unread x)
def pl2 (arg : Memref sig .tc .vmem S4x3x108x128 .f32) (harg : arg.IsWhole) (x : Vec F S4x3x108x128 .f32) (b d : ℕ) (hb : b < 4) (hd : d < 3) :
    Vec F S1x1x108x128 .f32 :=
  View.readAt (Elt F) arg.view (Rect.unit (s := S4x3x108x128) ![b, d, 0, 0] S1x1x108x128.size (pl2_ok hb hd)).toLoadRect (harg.unread x)

theorem pl1_apply (arg : Memref sig .tc .vmem S4x3x864x128 .f32) (harg : arg.IsWhole) (x : Vec F S4x3x864x128 .f32) (b d : ℕ)
    (hb : b < 4) (hd : d < 3) (i : Fin 864) (j : Fin 128) :
    pl1 arg harg x b d hb hd (ix4 0 0 i j) = x (ix4 ⟨b, hb⟩ ⟨d, hd⟩ i j) := by
  unfold pl1
  rw [View.readAt_apply, Memref.IsWhole.read_unread]
  refine congrArg x ?_
  funext a
  apply Fin.ext
  fin_cases a
  · exact (Nat.add_zero _)
  · exact (Nat.add_zero _)
  · exact (Nat.zero_add _).trans (Nat.one_mul _)
  · exact (Nat.zero_add _).trans (Nat.one_mul _)

theorem pl2_apply (arg : Memref sig .tc .vmem S4x3x108x128 .f32) (harg : arg.IsWhole) (x : Vec F S4x3x108x128 .f32) (b d : ℕ)
    (hb : b < 4) (hd : d < 3) (i : Fin 108) (j : Fin 128) :
    pl2 arg harg x b d hb hd (ix4 0 0 i j) = x (ix4 ⟨b, hb⟩ ⟨d, hd⟩ i j) := by
  unfold pl2
  rw [View.readAt_apply, Memref.IsWhole.read_unread]
  refine congrArg x ?_
  funext a
  apply Fin.ext
  fin_cases a
  · exact (Nat.add_zero _)
  · exact (Nat.add_zero _)
  · exact (Nat.zero_add _).trans (Nat.one_mul _)
  · exact (Nat.zero_add _).trans (Nat.one_mul _)

section Run

variable (c : Dev nD)
  (arg0 : Memref sig .tc .vmem S4x864x128 .f32) (harg0 : arg0.IsWhole)
  (arg1 : Memref sig .tc .vmem S4x3x864x128 .f32) (harg1 : arg1.IsWhole)
  (arg2 : Memref sig .tc .vmem S4x3x864x128 .f32) (harg2 : arg2.IsWhole)
  (arg3 : Memref sig .tc .vmem S4x108x128 .f32) (harg3 : arg3.IsWhole)
  (arg4 : Memref sig .tc .vmem S4x3x108x128 .f32) (harg4 : arg4.IsWhole)
  (arg5 : Memref sig .tc .vmem S4x3x108x128 .f32) (harg5 : arg5.IsWhole)
  (arg6 : Memref sig .tc .vmem S4x120x8 .f32) (harg6 : arg6.IsWhole)
  (arg7 : Memref sig .tc .vmem S4x864x128 .f32) (harg7 : arg7.IsWhole)
  (arg8 : Memref sig .tc .vmem S4x108x128 .f32) (harg8 : arg8.IsWhole)
  (x0 : Vec F S4x864x128 .f32) (x1 : Vec F S4x3x864x128 .f32) (x2 : Vec F S4x3x864x128 .f32)
  (x3 : Vec F S4x108x128 .f32) (x4 : Vec F S4x3x108x128 .f32) (x5 : Vec F S4x3x108x128 .f32)

/-- What image `b`'s candidates are computed from. -/
def srcOf (C : Car F) (b : ℕ) (hb : b < 4) : Src F where
  s := slS ![b, 0, 0] C.2.2.1 (slS_ok hb)
  ln := slS ![b, 0, 0] C.2.2.2 (slS_ok hb)
  g := slL ![b, 0, 0] C.2.1 (slL_ok hb)
  v := slL ![b, 0, 0] C.1 (slL_ok hb)
  a0 := pl1 arg1 harg1 x1 b 0 hb (by decide)
  a1 := pl1 arg1 harg1 x1 b 1 hb (by decide)
  a2 := pl1 arg1 harg1 x1 b 2 hb (by decide)
  o0 := pl1 arg2 harg2 x2 b 0 hb (by decide)
  o1 := pl1 arg2 harg2 x2 b 1 hb (by decide)
  o2 := pl1 arg2 harg2 x2 b 2 hb (by decide)
  b0 := pl2 arg4 harg4 x4 b 0 hb (by decide)
  b1 := pl2 arg4 harg4 x4 b 1 hb (by decide)
  b2 := pl2 arg4 harg4 x4 b 2 hb (by decide)
  p0 := pl2 arg5 harg5 x5 b 0 hb (by decide)
  p1 := pl2 arg5 harg5 x5 b 1 hb (by decide)
  p2 := pl2 arg5 harg5 x5 b 2 hb (by decide)

/-- The output row's lanes. -/
def lane55 : IVec S1x8 32 := iota .tc S1x8 32 [1] iota_S1x8_d1_w32

/-- The carried vectors the extraction leaves, as the run names them. -/
def carOf : Car F :=
  (kernelRun0_A.sl.r c arg0 harg0 arg1 harg1 arg2 harg2 arg3 harg3 arg4 harg4 arg5 harg5 arg6 harg6 arg7 harg7 arg8 harg8 x0 x3,
   kernelRun0_A.sl.r_1 c arg0 harg0 arg1 harg1 arg2 harg2 arg3 harg3 arg4 harg4 arg5 harg5 arg6 harg6 arg7 harg7 arg8 harg8 x0 x3,
   kernelRun0_A.sl.r_2 c arg0 harg0 arg1 harg1 arg2 harg2 arg3 harg3 arg4 harg4 arg5 harg5 arg6 harg6 arg7 harg7 arg8 harg8 x0 x3,
   kernelRun0_A.sl.r_3 c arg0 harg0 arg1 harg1 arg2 harg2 arg3 harg3 arg4 harg4 arg5 harg5 arg6 harg6 arg7 harg7 arg8 harg8 x0 x3)

/-- The rows image `b`'s loop writes. -/
def rowsOf (S : Src F) (k : ℕ) : FVec F S1x1x8 .f32 := nmsRow lane49 lane55 S.fld (cur lane49 S.fld S.ini k)

/-- The pieces the run leaves in the output. -/
theorem run_pieces :
    (kernelRun0_A c arg0 harg0 arg1 harg1 arg2 harg2 arg3 harg3 arg4 harg4 arg5 harg5 arg6 harg6 arg7 harg7 arg8 harg8 x0 x1 x2 x3 x4 x5).1
    = rowPieces k0_off4 k0_off4_inb (rowsOf (srcOf arg1 harg1 arg2 harg2 arg4 harg4 arg5 harg5 x1 x2 x4 x5 (carOf c arg0 harg0 arg1 harg1 arg2 harg2 arg3 harg3 arg4 harg4 arg5 harg5 arg6 harg6 arg7 harg7 arg8 harg8 x0 x3) 3 (by decide))) k0_t6_loop.trips
      ++ (rowPieces k0_off3 k0_off3_inb (rowsOf (srcOf arg1 harg1 arg2 harg2 arg4 harg4 arg5 harg5 x1 x2 x4 x5 (carOf c arg0 harg0 arg1 harg1 arg2 harg2 arg3 harg3 arg4 harg4 arg5 harg5 arg6 harg6 arg7 harg7 arg8 harg8 x0 x3) 2 (by decide))) k0_t5_loop.trips
      ++ (rowPieces k0_off2 k0_off2_inb (rowsOf (srcOf arg1 harg1 arg2 harg2 arg4 harg4 arg5 harg5 x1 x2 x4 x5 (carOf c arg0 harg0 arg1 harg1 arg2 harg2 arg3 harg3 arg4 harg4 arg5 harg5 arg6 harg6 arg7 harg7 arg8 harg8 x0 x3) 1 (by decide))) k0_t4_loop.trips
      ++ (rowPieces k0_off1 k0_off1_inb (rowsOf (srcOf arg1 harg1 arg2 harg2 arg4 harg4 arg5 harg5 x1 x2 x4 x5 (carOf c arg0 harg0 arg1 harg1 arg2 harg2 arg3 harg3 arg4 harg4 arg5 harg5 arg6 harg6 arg7 harg7 arg8 harg8 x0 x3) 0 (by decide))) k0_t3_loop.trips
      ++ kernelRun0_A.sl.H6_1))) := by
  unfold kernelRun0_A
  dsimp only
  refine congrArg₂ (· ++ ·) (congrArg Prod.snd (st6_eq _ _ _ _ _ _ _ _ _ _ _ _ _ _ _ _ _ _ _ _ _ lane49 lane55 _ _ _ _ _ _ _ _ _ _ _ _ _ _ _
    (srcOf arg1 harg1 arg2 harg2 arg4 harg4 arg5 harg5 x1 x2 x4 x5 (carOf c arg0 harg0 arg1 harg1 arg2 harg2 arg3 harg3 arg4 harg4 arg5 harg5 arg6 harg6 arg7 harg7 arg8 harg8 x0 x3) 3 (by decide)).fld rfl _ le_rfl)) ?_
  refine congrArg₂ (· ++ ·) (congrArg Prod.snd (st5_eq _ _ _ _ _ _ _ _ _ _ _ _ _ _ _ _ _ _ _ _ _ _ _ lane49 lane55 _ _ _ _ _ _ _ _
    (srcOf arg1 harg1 arg2 harg2 arg4 harg4 arg5 harg5 x1 x2 x4 x5 (carOf c arg0 harg0 arg1 harg1 arg2 harg2 arg3 harg3 arg4 harg4 arg5 harg5 arg6 harg6 arg7 harg7 arg8 harg8 x0 x3) 2 (by decide)).fld rfl _ le_rfl)) ?_
  refine congrArg₂ (· ++ ·) (congrArg Prod.snd (st4_eq _ _ _ _ _ _ _ _ _ _ _ _ _ _ _ _ _ _ _ _ _ _ _ lane49 _ lane55 _ _ _ _ _ _ _ _ _ _ _ _ _
    (srcOf arg1 harg1 arg2 harg2 arg4 harg4 arg5 harg5 x1 x2 x4 x5 (carOf c arg0 harg0 arg1 harg1 arg2 harg2 arg3 harg3 arg4 harg4 arg5 harg5 arg6 harg6 arg7 harg7 arg8 harg8 x0 x3) 1 (by decide)).fld rfl _ le_rfl)) ?_
  refine congrArg₂ (· ++ ·) (congrArg Prod.snd (st3_eq _ _ _ _ _ _ _ _ _ _ _ _ _ _ _ _ _ _ _ _ _ _ _ lane49 lane55 _ _ _ _ _ _ _ _ _ _
    (srcOf arg1 harg1 arg2 harg2 arg4 harg4 arg5 harg5 x1 x2 x4 x5 (carOf c arg0 harg0 arg1 harg1 arg2 harg2 arg3 harg3 arg4 harg4 arg5 harg5 arg6 harg6 arg7 harg7 arg8 harg8 x0 x3) 0 (by decide)).fld rfl _ le_rfl)) ?_
  rfl

end Run

end Cert.Proof

end
-- ==== Proof.NmsValue.lean ====
/-
  The suppression loop over the extended reals: its standing scores are those of the greedy suppression, and the rows it
  writes are that suppression's rows.
-/
module

public import proofs.«01_k».proof.Proof.Greedy
public import proofs.«01_k».proof.Proof.ImgWords

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen

/-- A candidate's lane. -/
def up (l : Fin 120) : Fin 128 := ⟨l.val, by omega⟩

/-- The fields of the kernel's lanes are those of the candidates. -/
structure Reads (f : Fld Ideal) (C : Cnd) : Prop where
  score : ∀ l, f.score (ix2 0 (up l)) = C.sc l
  cz : ∀ l, f.cz (ix2 0 (up l)) = C.bx l 0
  cy : ∀ l, f.cy (ix2 0 (up l)) = C.bx l 1
  cx : ∀ l, f.cx (ix2 0 (up l)) = C.bx l 2
  sz : ∀ l, f.sz (ix2 0 (up l)) = C.bx l 3
  sy : ∀ l, f.sy (ix2 0 (up l)) = C.bx l 4
  sx : ∀ l, f.sx (ix2 0 (up l)) = C.bx l 5
  vol : ∀ l, f.vol (ix2 0 (up l)) = C.bx l 3 * C.bx l 4 * C.bx l 5
  loz : ∀ l, f.loz (ix2 0 (up l)) = loOf (C.bx l 0) (C.bx l 3)
  hiz : ∀ l, f.hiz (ix2 0 (up l)) = hiOf (C.bx l 0) (C.bx l 3)
  loy : ∀ l, f.loy (ix2 0 (up l)) = loOf (C.bx l 1) (C.bx l 4)
  hiy : ∀ l, f.hiy (ix2 0 (up l)) = hiOf (C.bx l 1) (C.bx l 4)
  lox : ∀ l, f.lox (ix2 0 (up l)) = loOf (C.bx l 2) (C.bx l 5)
  hix : ∀ l, f.hix (ix2 0 (up l)) = hiOf (C.bx l 2) (C.bx l 5)

theorem up_inj (i j : Fin 120) : (up i = up j) = (i = j) := by
  simp only [up, Fin.ext_iff]

/-- The kernel's standing scores are the candidates' where alive, −∞ elsewhere and in the lanes past them. -/
def Stands (C : Cnd) (al : Fin 120 → Prop) (acc : FVec Ideal S1x128 .f32) : Prop :=
  ∀ l : Fin 128, acc (ix2 0 l) = if h : l.val < 120 then C.mask al ⟨l.val, h⟩ else ⊥

variable {C : Cnd} {al : Fin 120 → Prop} {acc : FVec Ideal S1x128 .f32}

theorem Stands.up (h : Stands C al acc) (l : Fin 120) : acc (ix2 0 (up l)) = C.mask al l := by
  rw [h, dif_pos (show (Cert.Proof.up l).val < 120 from l.isLt)]; rfl

/-- The greatest standing score is the best candidate's. -/
theorem max_eq (h : Stands C al acc) (i j : Fin 1) : k0_pay65 acc (ix2 i j) = C.mask al (C.best al) := by
  unfold k0_pay65
  simp only [pointwise, Nat.reduceEqDiff, ↓reduceDIte, bits_bot]
  refine fold_max_eq _ _ (fun l => ?_) ⟨up (C.best al), h.up _⟩
  rw [h l]
  split
  · exact (C.best_spec al _).1
  · exact bot_le

/-- The least lane at which a value is reached. -/
theorem least_lane (X : Fin 128 → EReal) (v : EReal) (p : Fin 128) (hp : X p = v) (hle : ∀ k, X k = v → p ≤ k) :
    Finset.fold IntOp.minsi 2147483647#32 (fun k : Fin 128 => if X k = v then BitVec.ofNat 32 k.val else 1073741824#32) Finset.univ
      = BitVec.ofNat 32 p.val := by
  have hint : ∀ n : ℕ, n < 2147483648 → (BitVec.ofNat 32 n).toInt = n := fun n hn => WordArith.toInt_ofNat_small n hn
  have hp' := p.isLt
  refine fold_min_eq _ _ (fun k => ?_) ⟨p, if_pos hp⟩
  have hk := k.isLt
  rw [hint _ (by omega)]
  by_cases e : X k = v
  · rw [if_pos e, hint _ (by omega)]
    exact_mod_cast hle k e
  · rw [if_neg e, hint _ (by omega)]
    exact_mod_cast (by omega : p.val ≤ 1073741824)

/-- The lane selected is the best candidate's. -/
theorem sel_eq (h : Stands C al acc) (l : Fin 128) :
    k0_pay66 (F := Ideal) lane49 acc (ix2 0 l) = if l = up (C.best al) then 1#1 else 0#1 := by
  have hm := least_lane (fun k => acc (ix2 0 k)) (C.mask al (C.best al)) (up (C.best al)) (h.up _) (fun k e => by
    by_cases hk : k.val < 120
    · rw [h k, dif_pos hk] at e
      exact (C.best_spec al _).2 e
    · have := (C.best al).isLt
      exact Fin.le_def.mpr (show (C.best al).val ≤ k.val by omega))
  have hb := (up (C.best al)).isLt
  have hl := l.isLt
  unfold k0_pay66
  simp only [pointwise, Nat.reduceEqDiff, ↓reduceDIte, lane49_apply, max_eq h]
  rw [hm]
  rw [eq_word _ _ (by omega) (by omega)]
  simp only [Fin.ext_iff]

/-- A sum over the selected lane is that lane's value. -/
theorem pick_eq (h : Stands C al acc) (v : FVec Ideal S1x128 .f32) (i j : Fin 1) :
    k0_pay68 lane49 v acc (ix2 i j) = v (ix2 0 (up (C.best al))) := by
  have hs : ∀ (k : Fin 128) (x : EReal), Scalar.select (k0_pay66 (F := Ideal) lane49 acc (ix2 0 k)) x 0
      = if k = up (C.best al) then x else 0 := fun k x => by
    rw [sel_eq h]
    by_cases e : k = up (C.best al) <;> simp [e, Scalar.select]
  unfold k0_pay68
  simp only [pointwise, Nat.reduceEqDiff, ↓reduceDIte, hs, Finset.sum_ite_eq', Finset.mem_univ, if_true, zero_add]

theorem pick_cz (h : Stands C al acc) (v : FVec Ideal S1x128 .f32) (i j : Fin 1) :
    k0_pay69 lane49 v acc (ix2 i j) = v (ix2 0 (up (C.best al))) := pick_eq h v i j
theorem pick_cy (h : Stands C al acc) (v : FVec Ideal S1x128 .f32) (i j : Fin 1) :
    k0_pay70 lane49 v acc (ix2 i j) = v (ix2 0 (up (C.best al))) := pick_eq h v i j
theorem pick_cx (h : Stands C al acc) (v : FVec Ideal S1x128 .f32) (i j : Fin 1) :
    k0_pay71 lane49 v acc (ix2 i j) = v (ix2 0 (up (C.best al))) := pick_eq h v i j
theorem pick_sz (h : Stands C al acc) (v : FVec Ideal S1x128 .f32) (i j : Fin 1) :
    k0_pay72 lane49 v acc (ix2 i j) = v (ix2 0 (up (C.best al))) := pick_eq h v i j
theorem pick_sy (h : Stands C al acc) (v : FVec Ideal S1x128 .f32) (i j : Fin 1) :
    k0_pay73 lane49 v acc (ix2 i j) = v (ix2 0 (up (C.best al))) := pick_eq h v i j
theorem pick_sx (h : Stands C al acc) (v : FVec Ideal S1x128 .f32) (i j : Fin 1) :
    k0_pay74 lane49 v acc (ix2 i j) = v (ix2 0 (up (C.best al))) := pick_eq h v i j

theorem neg_bot : (Named.named (F := Ideal) κ "neg" 0xF149F2CA#32 : Ideal .f32) = (⊥ : EReal) :=
  IdealRules.named_const.ideal_named_scalar _ _ _ _ rfl

/-- The next round's standing scores are the next round's. -/
theorem next_eq (f : Fld Ideal) (hf : Reads f C) (k : ℕ) (h : Stands C (C.alive k) acc) :
    Stands C (C.alive (k + 1)) (nmsNext lane49 f acc) := by
  intro l
  unfold nmsNext k0_pay77 k0_pay76 k0_pay75
  simp only [pointwise, Nat.reduceEqDiff, ↓reduceDIte, sel_eq h, pick_cz h, pick_cy h, pick_cx h, pick_sz h, pick_sy h, pick_sx h, neg_bot,
    hf.cz, hf.cy, hf.cx, hf.sz, hf.sy, hf.sx]
  by_cases hl : l.val < 120
  · obtain ⟨i, rfl⟩ : ∃ i : Fin 120, l = up i := ⟨⟨l.val, hl⟩, rfl⟩
    rw [dif_pos hl, h.up, hf.hiz, hf.hiy, hf.hix, hf.loz, hf.loy, hf.lox, hf.vol]
    simp only [up_inj]
    show Scalar.select (IntOp.andi (BitVec.ofBool (decide (iou (C.bx (C.best (C.alive k))) (C.bx i) ≤ iouThr))) _) _ _
      = C.mask (C.alive (k + 1)) i
    unfold Cnd.mask
    simp only [Cnd.alive]
    by_cases h1 : C.alive k i <;> by_cases h2 : iou (C.bx (C.best (C.alive k))) (C.bx i) ≤ iouThr <;>
      by_cases h3 : i = C.best (C.alive k) <;>
      simp [h1, h2, h3, Scalar.select, IntOp.andi, IntOp.xori]
  · rw [dif_neg hl, h l, dif_neg hl]
    exact ite_self _

/-- The row a round writes is the suppression's. -/
theorem row_eq (f : Fld Ideal) (hf : Reads f C) (k : ℕ) (h : Stands C (C.alive k) acc) (j : Fin 8) :
    nmsRow lane49 lane55 f acc (ix3 0 0 j) = C.row k j := by
  unfold nmsRow k0_pay2 k0_pay78 k0_pay67
  simp only [pointwise, Nat.reduceEqDiff, ↓reduceDIte, max_eq h, pick_eq h, pick_cz h, pick_cy h, pick_cx h, pick_sz h, pick_sy h, pick_sx h, neg_bot,
    hf.cz, hf.cy, hf.cx, hf.sz, hf.sy, hf.sx, hf.score]
  unfold Cnd.row
  have h55 : lane55 (ix2 0 j) = BitVec.ofNat 32 j.val := by unfold lane55; rw [iota_single_apply]; rfl
  rw [h55, bits_neg_one]
  by_cases e : ⊥ < C.mask (C.alive k) (C.best (C.alive k))
  · rw [if_pos e, if_pos e]
    fin_cases j <;> rfl
  · rw [if_neg e, if_neg e]

/-- Before every round the standing scores are the suppression's. -/
theorem stands_cur (f : Fld Ideal) (hf : Reads f C) (init : FVec Ideal S1x128 .f32) (h0 : Stands C (C.alive 0) init) :
    ∀ k, Stands C (C.alive k) (cur lane49 f init k)
  | 0 => h0
  | k + 1 => next_eq f hf k (stands_cur f hf init h0 k)

end Cert.Proof

end
-- ==== Proof.KerCand.lean ====
/-
  The candidates of one image as the kernel's fields: from what an image's fields are computed from, lane by lane.
-/
module

public import proofs.«01_k».proof.Proof.Cands
public import proofs.«01_k».proof.Proof.NmsValue

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen

/-- A plane's row and lane at a position. -/
def pix1 (p : Fin 110592) : S1x1x864x128.Idx := ix4 0 0 ⟨p.val / 128, by have := p.isLt; omega⟩ ⟨p.val % 128, by omega⟩
def pix2 (p : Fin 13824) : S1x1x108x128.Idx := ix4 0 0 ⟨p.val / 128, by have := p.isLt; omega⟩ ⟨p.val % 128, by omega⟩

/-- What an image's fields are computed from holds the image's candidates. -/
structure Feeds (A : Args) (b : Fin 4) (S : Src Ideal) : Prop where
  lo : ∀ l : Fin 120, l.val < 60 → S.s (ix2 (up l) 0) = BitVec.ofNat 32 (A.pos1 b l).val
    ∧ S.ln (ix2 (up l) 0) = BitVec.ofNat 32 ((A.pos1 b l).val % 128) ∧ S.g (ix2 0 (up l)) = BitVec.ofNat 32 (A.pos1 b l).val
  hi : ∀ l : Fin 120, 60 ≤ l.val → S.s (ix2 (up l) 0) = BitVec.ofNat 32 (A.pos2 b l).val
    ∧ S.ln (ix2 (up l) 0) = BitVec.ofNat 32 ((A.pos2 b l).val % 128) ∧ S.g (ix2 0 (up l)) = BitVec.ofNat 32 (A.pos2 b l).val
  v : ∀ l : Fin 120, S.v (ix2 0 (up l)) = (A.cnd b).sc l
  out : ∀ l : Fin 128, 120 ≤ l.val → S.v (ix2 0 l) = -1
  a0 : ∀ p, S.a0 (pix1 p) = at1 A.s1 b 0 p
  a1 : ∀ p, S.a1 (pix1 p) = at1 A.s1 b 1 p
  a2 : ∀ p, S.a2 (pix1 p) = at1 A.s1 b 2 p
  o0 : ∀ p, S.o0 (pix1 p) = at1 A.o1 b 0 p
  o1 : ∀ p, S.o1 (pix1 p) = at1 A.o1 b 1 p
  o2 : ∀ p, S.o2 (pix1 p) = at1 A.o1 b 2 p
  b0 : ∀ p, S.b0 (pix2 p) = at2 A.s2 b 0 p
  b1 : ∀ p, S.b1 (pix2 p) = at2 A.s2 b 1 p
  b2 : ∀ p, S.b2 (pix2 p) = at2 A.s2 b 2 p
  p0 : ∀ p, S.p0 (pix2 p) = at2 A.o2 b 0 p
  p1 : ∀ p, S.p1 (pix2 p) = at2 A.o2 b 1 p
  p2 : ∀ p, S.p2 (pix2 p) = at2 A.o2 b 2 p

/-- The stride of a lane's level. -/
theorem stride_apply (l : Fin 128) : k0_pay111 (F := Ideal) lane49 (ix2 0 l) = if l.val < 60 then two else four := by
  have hl := l.isLt
  unfold k0_pay111 k0_pay110
  simp only [pointwise, Nat.reduceEqDiff, ↓reduceDIte, lane49_apply]
  rw [sge60_word l.val hl]
  by_cases e : 60 ≤ l.val
  · simp [e, Scalar.select, Nat.not_lt.mpr e, four]
  · simp [e, Scalar.select, Nat.lt_of_not_le e, two]

/-- A centre and a size at a lane. -/
theorem ctr_apply (o : FVec Ideal S1x128 .f32) (z : IVec S1x128 32) (l : Fin 128) (n : ℕ) (hn : n < 2147483648)
    (hz : z (ix2 0 l) = BitVec.ofNat 32 n) : ctr o z (ix2 0 l) = (((n : ℝ) : EReal) + o (ix2 0 l)) * (if l.val < 60 then two else four) := by
  unfold ctr k0_pay121
  simp only [pointwise, Nat.reduceEqDiff, ↓reduceDIte, hz, stride_apply]
  rw [sitofp_word n hn]
theorem siz_apply (a : FVec Ideal S1x128 .f32) (l : Fin 128) :
    siz a (ix2 0 l) = two * a (ix2 0 l) * (if l.val < 60 then two else four) := by
  unfold siz k0_pay123
  simp only [pointwise, Nat.reduceEqDiff, ↓reduceDIte, stride_apply]
  rfl

/-- The coordinates' words at a lane. -/
theorem crd_word (g : IVec S1x128 32) (l : Fin 128) (t : ℕ) (ht : t < 2147483648) (hg : g (ix2 0 l) = BitVec.ofNat 32 t) :
    crdZ g (ix2 0 l) = BitVec.ofNat 32 (crd (side l) t 0)
    ∧ crdY g (ix2 0 l) = BitVec.ofNat 32 (crd (side l) t 1)
    ∧ crdX g (ix2 0 l) = BitVec.ofNat 32 (crd (side l) t 2) := by
  obtain ⟨h1, h2, h3⟩ := crd_apply g l t ht hg
  refine ⟨h1, h2.trans ?_, h3⟩
  rw [Nat.mod_mul_right_div_self]
  rfl

theorem crd_le (n p d : ℕ) : crd n p d ≤ p := by
  unfold crd
  split
  · exact Nat.div_le_self _ _
  · exact (Nat.mod_le _ _).trans (Nat.div_le_self _ _)
  · exact Nat.mod_le _ _

variable {A : Args} {b : Fin 4} {S : Src Ideal}

/-- A plane's entry at a candidate's position. -/
theorem Feeds.comp (h : Feeds A b S) (u1 : Vec Ideal S1x1x864x128 .f32) (u2 : Vec Ideal S1x1x108x128 .f32)
    (w1 : Fin 110592 → EReal) (w2 : Fin 13824 → EReal) (h1 : ∀ p, u1 (pix1 p) = w1 p) (h2 : ∀ p, u2 (pix2 p) = w2 p) (l : Fin 120) :
    Cert.Proof.comp S.s S.ln u1 u2 (ix2 0 (up l)) = if l.val < 60 then w1 (A.pos1 b l) else w2 (A.pos2 b l) := by
  by_cases e : l.val < 60
  · rw [if_pos e, comp_lo S.s S.ln u1 u2 (up l) e (A.pos1 b l) (h.lo l e).1 (h.lo l e).2.1]
    exact h1 _
  · have e' : 60 ≤ l.val := Nat.le_of_not_lt e
    rw [if_neg e, comp_hi S.s S.ln u1 u2 (up l) e' (A.pos2 b l) (h.hi l e').1 (h.hi l e').2.1]
    exact h2 _

/-- The size of a candidate on axis `d`. -/
theorem Feeds.size (h : Feeds A b S) (u1 : Vec Ideal S1x1x864x128 .f32) (u2 : Vec Ideal S1x1x108x128 .f32) (d : Fin 3)
    (h1 : ∀ p, u1 (pix1 p) = at1 A.s1 b d p) (h2 : ∀ p, u2 (pix2 p) = at2 A.s2 b d p) (l : Fin 120) :
    siz (Cert.Proof.comp S.s S.ln u1 u2) (ix2 0 (up l)) = (A.cnd b).bx l ⟨d.val + 3, by omega⟩ := by
  rw [siz_apply, h.comp u1 u2 _ _ h1 h2]
  have hd : ¬ d.val + 3 < 3 := by omega
  show _ = (if l.val < 60 then A.bx1 b (A.pos1 b l) else A.bx2 b (A.pos2 b l)) ⟨d.val + 3, _⟩
  by_cases e : l.val < 60
  · have e' : (up l).val < 60 := e
    rw [if_pos e, if_pos e', if_pos e]
    unfold Args.bx1
    dsimp only
    rw [dif_neg hd]
    rfl
  · have e' : ¬ (up l).val < 60 := e
    rw [if_neg e, if_neg e', if_neg e]
    unfold Args.bx2
    dsimp only
    rw [dif_neg hd]
    rfl

/-- The centre of a candidate on axis `d`. -/
theorem Feeds.centre (h : Feeds A b S) (u1 : Vec Ideal S1x1x864x128 .f32) (u2 : Vec Ideal S1x1x108x128 .f32) (d : Fin 3)
    (h1 : ∀ p, u1 (pix1 p) = at1 A.o1 b d p) (h2 : ∀ p, u2 (pix2 p) = at2 A.o2 b d p) (z : IVec S1x128 32)
    (hz : ∀ (l : Fin 128) (t : ℕ), t < 2147483648 → S.g (ix2 0 l) = BitVec.ofNat 32 t → z (ix2 0 l) = BitVec.ofNat 32 (crd (side l) t d.val))
    (l : Fin 120) :
    ctr (Cert.Proof.comp S.s S.ln u1 u2) z (ix2 0 (up l)) = (A.cnd b).bx l ⟨d.val, by omega⟩ := by
  have hd : d.val < 3 := d.isLt
  show _ = (if l.val < 60 then A.bx1 b (A.pos1 b l) else A.bx2 b (A.pos2 b l)) ⟨d.val, _⟩
  by_cases e : l.val < 60
  · have e' : (up l).val < 60 := e
    have hp := (A.pos1 b l).isLt
    have hs : side (up l) = 48 := if_neg (Nat.not_le.mpr e')
    have hc := crd_le (side (up l)) (A.pos1 b l).val d.val
    rw [ctr_apply _ _ _ _ (by omega) (hz _ _ (by omega) (h.lo l e).2.2), h.comp u1 u2 _ _ h1 h2, if_pos e, if_pos e', if_pos e, hs]
    unfold Args.bx1
    dsimp only
    rw [dif_pos hd]
    rfl
  · have e' : ¬ (up l).val < 60 := e
    have hp := (A.pos2 b l).isLt
    have hs : side (up l) = 24 := if_pos (Nat.le_of_not_lt e')
    have hc := crd_le (side (up l)) (A.pos2 b l).val d.val
    rw [ctr_apply _ _ _ _ (by omega) (hz _ _ (by omega) (h.hi l (Nat.le_of_not_lt e)).2.2), h.comp u1 u2 _ _ h1 h2, if_neg e, if_neg e', if_neg e, hs]
    unfold Args.bx2
    dsimp only
    rw [dif_pos hd]
    rfl

/-- The fields are the candidates'. -/
theorem Feeds.reads (h : Feeds A b S) : Reads S.fld (A.cnd b) := by
  have c0 : ∀ l, ctr (Cert.Proof.comp S.s S.ln S.o0 S.p0) (crdZ S.g) (ix2 0 (up l)) = (A.cnd b).bx l 0 :=
    h.centre S.o0 S.p0 0 h.o0 h.p0 _ fun l t ht hg => (crd_word S.g l t ht hg).1
  have c1 : ∀ l, ctr (Cert.Proof.comp S.s S.ln S.o1 S.p1) (crdY S.g) (ix2 0 (up l)) = (A.cnd b).bx l 1 :=
    h.centre S.o1 S.p1 1 h.o1 h.p1 _ fun l t ht hg => (crd_word S.g l t ht hg).2.1
  have c2 : ∀ l, ctr (Cert.Proof.comp S.s S.ln S.o2 S.p2) (crdX S.g) (ix2 0 (up l)) = (A.cnd b).bx l 2 :=
    h.centre S.o2 S.p2 2 h.o2 h.p2 _ fun l t ht hg => (crd_word S.g l t ht hg).2.2
  have s0 : ∀ l, siz (Cert.Proof.comp S.s S.ln S.a0 S.b0) (ix2 0 (up l)) = (A.cnd b).bx l 3 := h.size S.a0 S.b0 0 h.a0 h.b0
  have s1 : ∀ l, siz (Cert.Proof.comp S.s S.ln S.a1 S.b1) (ix2 0 (up l)) = (A.cnd b).bx l 4 := h.size S.a1 S.b1 1 h.a1 h.b1
  have s2 : ∀ l, siz (Cert.Proof.comp S.s S.ln S.a2 S.b2) (ix2 0 (up l)) = (A.cnd b).bx l 5 := h.size S.a2 S.b2 2 h.a2 h.b2
  have lo : ∀ (u w : FVec Ideal S1x128 .f32) (l : Fin 120), subf u (half w) (ix2 0 (up l)) = loOf (u (ix2 0 (up l))) (w (ix2 0 (up l))) := fun _ _ _ => rfl
  have hi : ∀ (u w : FVec Ideal S1x128 .f32) (l : Fin 120), addf u (half w) (ix2 0 (up l)) = hiOf (u (ix2 0 (up l))) (w (ix2 0 (up l))) := fun _ _ _ => rfl
  have pr : ∀ (u w x : FVec Ideal S1x128 .f32) (l : Fin 120), mulf (mulf u w) x (ix2 0 (up l)) = u (ix2 0 (up l)) * w (ix2 0 (up l)) * x (ix2 0 (up l)) :=
    fun _ _ _ _ => rfl
  exact {
    score := h.v, cz := c0, cy := c1, cx := c2, sz := s0, sy := s1, sx := s2
    vol := fun l => (pr _ _ _ l).trans (by rw [s0, s1, s2])
    loz := fun l => (lo _ _ l).trans (by rw [c0, s0])
    hiz := fun l => (hi _ _ l).trans (by rw [c0, s0])
    loy := fun l => (lo _ _ l).trans (by rw [c1, s1])
    hiy := fun l => (hi _ _ l).trans (by rw [c1, s1])
    lox := fun l => (lo _ _ l).trans (by rw [c2, s2])
    hix := fun l => (hi _ _ l).trans (by rw [c2, s2]) }

/-- The threshold is not below −1. -/
theorem thr_nonneg : (0 : EReal) ≤ thr := by
  unfold thr
  simp [Ideal.ofBits, Ideal.ieee]
  rw [← EReal.coe_mul]
  exact_mod_cast (by positivity : (0 : ℝ) ≤ 10066330 * (2 ^ 26)⁻¹)

/-- The scores standing at the start are those above the threshold. -/
theorem Feeds.stands (h : Feeds A b S) : Stands (A.cnd b) ((A.cnd b).alive 0) S.ini := by
  intro l
  unfold Src.ini
  simp only [pointwise, Nat.reduceEqDiff, ↓reduceDIte, neg_bot]
  by_cases hl : l.val < 120
  · obtain ⟨i, rfl⟩ : ∃ i : Fin 120, l = up i := ⟨⟨l.val, hl⟩, rfl⟩
    rw [dif_pos hl, h.v]
    show _ = (A.cnd b).mask ((A.cnd b).alive 0) i
    unfold Cnd.mask
    by_cases e : (A.cnd b).alive 0 i
    · rw [if_pos e]
      have e' : Ideal.ofBits .f32 0x3E19999A#32 < (A.cnd b).sc i := e
      simp [e', Scalar.select]
    · rw [if_neg e]
      have e' : ¬ Ideal.ofBits .f32 0x3E19999A#32 < (A.cnd b).sc i := e
      simp [e', Scalar.select]
  · rw [dif_neg hl, h.out l (Nat.le_of_not_lt hl)]
    have e' : ¬ Ideal.ofBits .f32 0x3E19999A#32 < (-1 : EReal) := fun e => absurd (lt_of_le_of_lt thr_nonneg e) (by
      rw [not_lt, ← neg_zero]; exact EReal.neg_le_neg_iff.mpr zero_le_one)
    simp [e', Scalar.select]

/-- The rows of the suppression over the fields are the candidates'. -/
theorem Feeds.rows (h : Feeds A b S) (k : ℕ) (j : Fin 8) : rowsOf S k (ix3 0 0 j) = (A.cnd b).row k j :=
  row_eq S.fld h.reads k (stands_cur S.fld h.reads S.ini h.stands k) j

end Cert.Proof

end
-- ==== Proof.KerCar.lean ====
/-
  What the extraction leaves over the scores of the two levels: the carried vectors the run names are those of the two
  recursions, and their lanes.
-/
module

public import proofs.«01_k».proof.Proof.ExtractLanes
public import proofs.«01_k».proof.Proof.ImgWords

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen

/-- The lanes' numbers, along and across. -/
def laneS : IVec S4x128x1 32 := iota .tc S4x128x1 32 [1] iota_S4x128x1_d1_w32
def laneL : IVec S4x1x128 32 := iota .tc S4x1x128 32 [2] iota_S4x1x128_d2_w32

theorem laneS_apply (b : Fin 4) (l : Fin 128) : laneS (ix3 b l 0) = BitVec.ofNat 32 l.val := by
  rw [laneS, iota_single_apply]; rfl
theorem laneL_apply (b : Fin 4) (l : Fin 128) : laneL (ix3 b 0 l) = BitVec.ofNat 32 l.val := by
  rw [laneL, iota_single_apply]; rfl

/-- The carried vectors before the first round. -/
def carInit (F : FTy → Type) [FloatOps F] [Named F] : Car F := (k0_pay81, k0_pay82, k0_pay83, k0_pay84)

/-- The carried vectors after both levels' rounds. -/
def carEnd {F : FTy → Type} [FloatOps F] [Named F] (X1 : Vec F S4x864x128 .f32) (X2 : Vec F S4x108x128 .f32) : Car F :=
  car2 k0_pay87 laneS laneL X2 (car1 k0_pay85 laneS laneL X1 (carInit F) k0_t1_loop.trips) k0_t2_loop.trips

section Run

variable {F : FTy → Type} [FloatOps F] [Named F]
variable (c : Dev nD)
  (arg0 : Memref sig .tc .vmem S4x864x128 .f32) (harg0 : arg0.IsWhole)
  (arg1 : Memref sig .tc .vmem S4x3x864x128 .f32) (harg1 : arg1.IsWhole)
  (arg2 : Memref sig .tc .vmem S4x3x864x128 .f32) (harg2 : arg2.IsWhole)
  (arg3 : Memref sig .tc .vmem S4x108x128 .f32) (harg3 : arg3.IsWhole)
  (arg4 : Memref sig .tc .vmem S4x3x108x128 .f32) (harg4 : arg4.IsWhole)
  (arg5 : Memref sig .tc .vmem S4x3x108x128 .f32) (harg5 : arg5.IsWhole)
  (arg6 : Memref sig .tc .vmem S4x120x8 .f32) (harg6 : arg6.IsWhole)
  (arg7 : Memref sig .tc .vmem S4x864x128 .f32) (harg7 : arg7.IsWhole)
  (arg8 : Memref sig .tc .vmem S4x108x128 .f32) (harg8 : arg8.IsWhole)
  (x0 : Vec F S4x864x128 .f32) (x3 : Vec F S4x108x128 .f32)

/-- The block of scores the run writes before the first level's rounds. -/
theorem scores1 : arg7.view.read (Elt F) (arg7.view.writes (Elt F) arg7.view.junk (kernelRun0_A.sl.HS0_1 c arg0 harg0 x0)) = k0_pay79 x0 := by
  have hz : (![0, 0, 0] : Fin 3 → ℕ) = fun _ => 0 := by funext a; fin_cases a <;> rfl
  unfold kernelRun0_A.sl.HS0_1
  refine (read_writes_whole (F := F) arg7.view _ ![0, 0, 0] hz inb_S4x864x128_S4x864x128_0_0_0 _ _).trans (congrArg k0_pay79 ?_)
  exact (readAt_whole (F := F) arg0.view _ ![0, 0, 0] hz inb_S4x864x128_S4x864x128_0_0_0).trans (harg0.read_unread x0)

/-- The block of scores the run writes before the second level's rounds. -/
theorem scores2 : arg8.view.read (Elt F) (arg8.view.writes (Elt F) arg8.view.junk (kernelRun0_A.sl.HS1_1 c arg3 harg3 x3)) = k0_pay80 x3 := by
  have hz : (![0, 0, 0] : Fin 3 → ℕ) = fun _ => 0 := by funext a; fin_cases a <;> rfl
  unfold kernelRun0_A.sl.HS1_1
  refine (read_writes_whole (F := F) arg8.view _ ![0, 0, 0] hz inb_S4x108x128_S4x108x128_0_0_0 _ _).trans (congrArg k0_pay80 ?_)
  exact (readAt_whole (F := F) arg3.view _ ![0, 0, 0] hz inb_S4x108x128_S4x108x128_0_0_0).trans (harg3.read_unread x3)

/-- The carried vectors the run names. -/
theorem carOf_eq : carOf c arg0 harg0 arg1 harg1 arg2 harg2 arg3 harg3 arg4 harg4 arg5 harg5 arg6 harg6 arg7 harg7 arg8 harg8 x0 x3
    = carEnd (k0_pay79 x0) (k0_pay80 x3) := by
  have h1 := (st1_eq (F := F) Variants.none c none arg0 harg0 arg1 harg1 arg2 harg2 arg3 harg3 arg4 harg4 arg5 harg5 arg6 harg6 arg7 harg7
    arg8 harg8 k0_pay81 k0_pay82 k0_pay83 k0_pay84 k0_pay85 laneS laneL _ (carInit F) _ (scores1 c arg0 harg0 arg7 x0) k0_t1_loop.trips le_rfl).1
  have h2 := (st2_eq (F := F) Variants.none c none arg0 harg0 arg1 harg1 arg2 harg2 arg3 harg3 arg4 harg4 arg5 harg5 arg6 harg6 arg7 harg7
    arg8 harg8 k0_pay81 k0_pay82 k0_pay83 k0_pay84 k0_pay85 laneS laneL laneS laneL _ (car1 k0_pay85 laneS laneL (k0_pay79 x0) (carInit F) k0_t1_loop.trips)
    _ (scores2 c arg3 harg3 arg8 x3) k0_t2_loop.trips le_rfl).1
  unfold carEnd
  rw [← h2, ← h1]
  rfl

end Run

section Lanes

variable (X1 : Vec Ideal S4x864x128 .f32) (X2 : Vec Ideal S4x108x128 .f32) (b : Fin 4)
  (h1 : ∀ p, 0 ≤ flat1 X1 b p) (h2 : ∀ p, 0 ≤ flat2 X2 b p) (l : Fin 128)

theorem trips1 : k0_t1_loop.trips = 60 := by decide
theorem trips2 : k0_t2_loop.trips = 60 := by decide

include h1 h2

/-- A lane of the first level. -/
theorem carEnd_lo (h : l.val < 60) :
    (carEnd X1 X2).1 (ix3 b 0 l) = flat1 X1 b (T1 X1 b l)
    ∧ (carEnd X1 X2).2.1 (ix3 b 0 l) = BitVec.ofNat 32 (T1 X1 b l).val
    ∧ (carEnd X1 X2).2.2.1 (ix3 b l 0) = BitVec.ofNat 32 (T1 X1 b l).val
    ∧ (carEnd X1 X2).2.2.2 (ix3 b l 0) = BitVec.ofNat 32 ((T1 X1 b l).val % 128) := by
  obtain ⟨a1, a2, a3, a4⟩ := car1_apply laneS laneL laneS_apply laneL_apply X1 (carInit Ideal) b h1 l 60 le_rfl
  obtain ⟨c1, c2, c3, c4⟩ := car2_apply laneS laneL laneS_apply laneL_apply X2 (car1 k0_pay85 laneS laneL X1 (carInit Ideal) 60) b h2 l 60 le_rfl
  have n1 : ¬ (60 ≤ l.val ∧ l.val < 60 + 60) := by omega
  have n2 : 0 ≤ l.val ∧ l.val < 0 + 60 := by omega
  unfold carEnd
  rw [trips1, c1, c2, c3, c4, if_neg n1, if_neg n1, if_neg n1, if_neg n1, a1, a2, a3, a4, if_pos n2, if_pos n2, if_pos n2, if_pos n2]
  exact ⟨rfl, rfl, rfl, rfl⟩

/-- A lane of the second level. -/
theorem carEnd_hi (h : 60 ≤ l.val) (h' : l.val < 120) :
    (carEnd X1 X2).1 (ix3 b 0 l) = flat2 X2 b (T2 X2 b l)
    ∧ (carEnd X1 X2).2.1 (ix3 b 0 l) = BitVec.ofNat 32 (T2 X2 b l).val
    ∧ (carEnd X1 X2).2.2.1 (ix3 b l 0) = BitVec.ofNat 32 (T2 X2 b l).val
    ∧ (carEnd X1 X2).2.2.2 (ix3 b l 0) = BitVec.ofNat 32 ((T2 X2 b l).val % 128) := by
  obtain ⟨c1, c2, c3, c4⟩ := car2_apply laneS laneL laneS_apply laneL_apply X2 (car1 k0_pay85 laneS laneL X1 (carInit Ideal) 60) b h2 l 60 le_rfl
  have n1 : 60 ≤ l.val ∧ l.val < 60 + 60 := by omega
  unfold carEnd
  rw [trips1, c1, c2, c3, c4, if_pos n1, if_pos n1, if_pos n1, if_pos n1]
  exact ⟨rfl, rfl, rfl, rfl⟩

/-- A lane past the candidates. -/
theorem carEnd_out (h : 120 ≤ l.val) : (carEnd X1 X2).1 (ix3 b 0 l) = -1 := by
  have a1 := (car1_apply laneS laneL laneS_apply laneL_apply X1 (carInit Ideal) b h1 l 60 le_rfl).1
  have c1 := (car2_apply laneS laneL laneS_apply laneL_apply X2 (car1 k0_pay85 laneS laneL X1 (carInit Ideal) 60) b h2 l 60 le_rfl).1
  have n1 : ¬ (60 ≤ l.val ∧ l.val < 60 + 60) := by omega
  have n2 : ¬ (0 ≤ l.val ∧ l.val < 0 + 60) := by omega
  unfold carEnd
  rw [trips1, c1, if_neg n1, a1, if_neg n2]
  exact bits_neg_one

end Lanes

end Cert.Proof

end
-- ==== Proof.KerFeed.lean ====
/-
  From the kernel's input blocks to what each image's fields are computed from, and to the block the kernel writes.
-/
module

public import proofs.«01_k».proof.Proof.KerCand
public import proofs.«01_k».proof.Proof.KerCar

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen

/-- The input blocks hold the arguments, position by position. -/
structure Blocks (A : Args) (x0 : Vec Ideal S4x864x128 .f32) (x1 x2 : Vec Ideal S4x3x864x128 .f32)
    (x3 : Vec Ideal S4x108x128 .f32) (x4 x5 : Vec Ideal S4x3x108x128 .f32) : Prop where
  c1 : ∀ b p, flat1 x0 b p = at1 A.c1 b 0 p
  c2 : ∀ b p, flat2 x3 b p = at2 A.c2 b 0 p
  s1 : ∀ b d (p : Fin 110592), x1 (ix4 b d ⟨p.val / 128, by have := p.isLt; omega⟩ ⟨p.val % 128, by omega⟩) = at1 A.s1 b d p
  o1 : ∀ b d (p : Fin 110592), x2 (ix4 b d ⟨p.val / 128, by have := p.isLt; omega⟩ ⟨p.val % 128, by omega⟩) = at1 A.o1 b d p
  s2 : ∀ b d (p : Fin 13824), x4 (ix4 b d ⟨p.val / 128, by have := p.isLt; omega⟩ ⟨p.val % 128, by omega⟩) = at2 A.s2 b d p
  o2 : ∀ b d (p : Fin 13824), x5 (ix4 b d ⟨p.val / 128, by have := p.isLt; omega⟩ ⟨p.val % 128, by omega⟩) = at2 A.o2 b d p

/-- The sigmoid is not negative. -/
theorem sg_nonneg (x : EReal) : 0 ≤ sg x := by
  have he : ∀ y : EReal, 0 ≤ Ideal.exp y := fun y => by
    induction y with
    | bot => exact le_rfl
    | top => exact le_top
    | coe r => exact EReal.coe_nonneg.mpr (Real.exp_pos r).le
  have h1 : (0 : EReal) < 1 + Ideal.exp (-x) := lt_of_lt_of_le zero_lt_one (le_add_of_nonneg_right (he _))
  unfold sg Ideal.div
  rw [if_neg h1.ne', one_mul]
  exact EReal.inv_nonneg_of_nonneg h1.le

/-- The kernel's scores are the sigmoids of its blocks. -/
theorem flat1_scores (x : Vec Ideal S4x864x128 .f32) (b : Fin 4) (p : Fin 110592) : flat1 (k0_pay79 x) b p = sg (flat1 x b p) := by
  unfold flat1 k0_pay79 sg
  simp only [pointwise, Nat.reduceEqDiff, ↓reduceDIte, zero_sub]
theorem flat2_scores (x : Vec Ideal S4x108x128 .f32) (b : Fin 4) (p : Fin 13824) : flat2 (k0_pay80 x) b p = sg (flat2 x b p) := by
  unfold flat2 k0_pay80 sg
  simp only [pointwise, Nat.reduceEqDiff, ↓reduceDIte, zero_sub]

/-- An image's part of a carried vector, entry by entry. -/
theorem slS_apply {α : Type} (b : ℕ) (hb : b < 4) (v : S4x128x1.Idx → α) (l : Fin 128) :
    slS ![b, 0, 0] v (slS_ok hb) (ix2 l 0) = v (ix3 ⟨b, hb⟩ l 0) := by
  unfold slS
  simp only [pointwise, Matrix.cons_val_zero, Matrix.cons_val_one, Nat.zero_add, Nat.add_zero, Fin.eta]
  rfl
theorem slL_apply {α : Type} (b : ℕ) (hb : b < 4) (v : S4x1x128.Idx → α) (l : Fin 128) :
    slL ![b, 0, 0] v (slL_ok hb) (ix2 0 l) = v (ix3 ⟨b, hb⟩ 0 l) := by
  unfold slL
  simp only [pointwise, Matrix.cons_val_zero, Matrix.cons_val_one, Nat.zero_add, Nat.add_zero, Fin.eta]
  exact congrArg (fun k => v (ix3 ⟨b, hb⟩ 0 k)) (Fin.ext (Nat.zero_add l.val))

variable {A : Args} {x0 : Vec Ideal S4x864x128 .f32} {x1 x2 : Vec Ideal S4x3x864x128 .f32}
    {x3 : Vec Ideal S4x108x128 .f32} {x4 x5 : Vec Ideal S4x3x108x128 .f32}

section Scores

variable (h : Blocks A x0 x1 x2 x3 x4 x5) (b : Fin 4)
include h

theorem Blocks.sc1 : flat1 (k0_pay79 x0) b = A.sc1 b := by
  funext p
  rw [flat1_scores, h.c1]
  rfl
theorem Blocks.sc2 : flat2 (k0_pay80 x3) b = A.sc2 b := by
  funext p
  rw [flat2_scores, h.c2]
  rfl
theorem Blocks.nn1 (p : Fin 110592) : 0 ≤ flat1 (k0_pay79 x0) b p := by
  rw [flat1_scores]; exact sg_nonneg _
theorem Blocks.nn2 (p : Fin 13824) : 0 ≤ flat2 (k0_pay80 x3) b p := by
  rw [flat2_scores]; exact sg_nonneg _
theorem Blocks.t1 (l : Fin 120) : T1 (k0_pay79 x0) b (up l) = A.pos1 b l := by
  unfold T1 Args.pos1
  rw [h.sc1 b]
  rfl
theorem Blocks.t2 (l : Fin 120) : T2 (k0_pay80 x3) b (up l) = A.pos2 b l := by
  unfold T2 Args.pos2
  rw [h.sc2 b]
  rfl

end Scores

section Run

variable (c : Dev nD)
  (arg0 : Memref sig .tc .vmem S4x864x128 .f32) (harg0 : arg0.IsWhole)
  (arg1 : Memref sig .tc .vmem S4x3x864x128 .f32) (harg1 : arg1.IsWhole)
  (arg2 : Memref sig .tc .vmem S4x3x864x128 .f32) (harg2 : arg2.IsWhole)
  (arg3 : Memref sig .tc .vmem S4x108x128 .f32) (harg3 : arg3.IsWhole)
  (arg4 : Memref sig .tc .vmem S4x3x108x128 .f32) (harg4 : arg4.IsWhole)
  (arg5 : Memref sig .tc .vmem S4x3x108x128 .f32) (harg5 : arg5.IsWhole)
  (arg6 : Memref sig .tc .vmem S4x120x8 .f32) (harg6 : arg6.IsWhole)
  (arg7 : Memref sig .tc .vmem S4x864x128 .f32) (harg7 : arg7.IsWhole)
  (arg8 : Memref sig .tc .vmem S4x108x128 .f32) (harg8 : arg8.IsWhole)

/-- What image `b`'s fields are computed from holds its candidates. -/
theorem Blocks.feeds (h : Blocks A x0 x1 x2 x3 x4 x5) (b : ℕ) (hb : b < 4) :
    Feeds A ⟨b, hb⟩ (srcOf arg1 harg1 arg2 harg2 arg4 harg4 arg5 harg5 x1 x2 x4 x5 (carEnd (k0_pay79 x0) (k0_pay80 x3)) b hb) where
  lo l e := by
    obtain ⟨_, g, s, n⟩ := carEnd_lo (k0_pay79 x0) (k0_pay80 x3) ⟨b, hb⟩ (h.nn1 _) (h.nn2 _) (up l) e
    rw [h.t1] at g s n
    exact ⟨(slS_apply b hb _ _).trans s, (slS_apply b hb _ _).trans n, (slL_apply b hb _ _).trans g⟩
  hi l e := by
    obtain ⟨_, g, s, n⟩ := carEnd_hi (k0_pay79 x0) (k0_pay80 x3) ⟨b, hb⟩ (h.nn1 _) (h.nn2 _) (up l) e l.isLt
    rw [h.t2] at g s n
    exact ⟨(slS_apply b hb _ _).trans s, (slS_apply b hb _ _).trans n, (slL_apply b hb _ _).trans g⟩
  v l := by
    refine (slL_apply b hb (carEnd (k0_pay79 x0) (k0_pay80 x3)).1 (up l)).trans ?_
    show _ = if l.val < 60 then A.sc1 ⟨b, hb⟩ (A.pos1 ⟨b, hb⟩ l) else A.sc2 ⟨b, hb⟩ (A.pos2 ⟨b, hb⟩ l)
    by_cases e : l.val < 60
    · rw [if_pos e, (carEnd_lo (k0_pay79 x0) (k0_pay80 x3) ⟨b, hb⟩ (h.nn1 _) (h.nn2 _) (up l) e).1, h.t1, h.sc1]
    · rw [if_neg e, (carEnd_hi (k0_pay79 x0) (k0_pay80 x3) ⟨b, hb⟩ (h.nn1 _) (h.nn2 _) (up l) (Nat.le_of_not_lt e) l.isLt).1, h.t2, h.sc2]
  out l e := (slL_apply b hb _ _).trans (carEnd_out (k0_pay79 x0) (k0_pay80 x3) ⟨b, hb⟩ (h.nn1 _) (h.nn2 _) l e)
  a0 p := (pl1_apply arg1 harg1 x1 b 0 hb (by decide) _ _).trans (h.s1 _ _ p)
  a1 p := (pl1_apply arg1 harg1 x1 b 1 hb (by decide) _ _).trans (h.s1 _ _ p)
  a2 p := (pl1_apply arg1 harg1 x1 b 2 hb (by decide) _ _).trans (h.s1 _ _ p)
  o0 p := (pl1_apply arg2 harg2 x2 b 0 hb (by decide) _ _).trans (h.o1 _ _ p)
  o1 p := (pl1_apply arg2 harg2 x2 b 1 hb (by decide) _ _).trans (h.o1 _ _ p)
  o2 p := (pl1_apply arg2 harg2 x2 b 2 hb (by decide) _ _).trans (h.o1 _ _ p)
  b0 p := (pl2_apply arg4 harg4 x4 b 0 hb (by decide) _ _).trans (h.s2 _ _ p)
  b1 p := (pl2_apply arg4 harg4 x4 b 1 hb (by decide) _ _).trans (h.s2 _ _ p)
  b2 p := (pl2_apply arg4 harg4 x4 b 2 hb (by decide) _ _).trans (h.s2 _ _ p)
  p0 p := (pl2_apply arg5 harg5 x5 b 0 hb (by decide) _ _).trans (h.o2 _ _ p)
  p1 p := (pl2_apply arg5 harg5 x5 b 1 hb (by decide) _ _).trans (h.o2 _ _ p)
  p2 p := (pl2_apply arg5 harg5 x5 b 2 hb (by decide) _ _).trans (h.o2 _ _ p)

end Run

end Cert.Proof

end
-- ==== Proof.KerIn.lean ====
/-
  The kernel's input blocks, of the arguments: each is an argument reshaped.
-/
module

public import proofs.«01_k».proof.Proof.KerFeed
public import proofs.«01_k».proof.Proof.Gen.KernelIdeal.Value
public import Idealize.ShloMosaic.Lib.StableHlo.RunRead

@[expose] public section

set_option maxRecDepth 16384
set_option maxHeartbeats 2000000

noncomputable section

namespace Cert.Proof

open Idealize.ShloMosaic Idealize.ShloMosaic.TcCoe Idealize.SL.Sem Idealize.ShloMosaic.StableHlo Cert.KernelIdeal Cert.KernelIdeal.Gen

section Entry

variable {F : FTy → Type} [FloatOps F] [Named F]
variable (m : (ℓ : Loc nD τ sig) → Buf (Elt F) ℓ) (c : Dev nD)

theorem V_main_v0 : V m c main_v0 = shapeCast S4x864x128 (m ((c : Thread nD τ).loc main_arg0)) shapeCasts_S4x1x48x48x48_S4x864x128 := by
  unfold V
  after_reads_simp
  rfl
theorem V_main_v1 : V m c main_v1 = shapeCast S4x3x864x128 (m ((c : Thread nD τ).loc main_arg1)) shapeCasts_S4x3x48x48x48_S4x3x864x128 := by
  unfold V
  after_reads_simp
  rfl
theorem V_main_v2 : V m c main_v2 = shapeCast S4x3x864x128 (m ((c : Thread nD τ).loc main_arg2)) shapeCasts_S4x3x48x48x48_S4x3x864x128 := by
  unfold V
  after_reads_simp
  rfl
theorem V_main_v3 : V m c main_v3 = shapeCast S4x108x128 (m ((c : Thread nD τ).loc main_arg3)) shapeCasts_S4x1x24x24x24_S4x108x128 := by
  unfold V
  after_reads_simp
  rfl
theorem V_main_v4 : V m c main_v4 = shapeCast S4x3x108x128 (m ((c : Thread nD τ).loc main_arg4)) shapeCasts_S4x3x24x24x24_S4x3x108x128 := by
  unfold V
  after_reads_simp
  rfl
theorem V_main_v5 : V m c main_v5 = shapeCast S4x3x108x128 (m ((c : Thread nD τ).loc main_arg5)) shapeCasts_S4x3x24x24x24_S4x3x108x128 := by
  unfold V
  after_reads_simp
  rfl

/-- A window's block is its whole array. -/
theorem iblk0 (t : Fin cfg0.N) : (iblk m c 0 t : Vec F S4x864x128 .f32) = V m c main_v0 := by
  unfold iblk
  funext i
  refine congrArg (V m c main_v0) (funext fun a => Fin.ext ?_)
  show 0 * _ + 1 * (i a).val = (i a).val
  omega
theorem iblk1 (t : Fin cfg0.N) : (iblk m c 1 t : Vec F S4x3x864x128 .f32) = V m c main_v1 := by
  unfold iblk
  funext i
  refine congrArg (V m c main_v1) (funext fun a => Fin.ext ?_)
  show 0 * _ + 1 * (i a).val = (i a).val
  omega
theorem iblk2 (t : Fin cfg0.N) : (iblk m c 2 t : Vec F S4x3x864x128 .f32) = V m c main_v2 := by
  unfold iblk
  funext i
  refine congrArg (V m c main_v2) (funext fun a => Fin.ext ?_)
  show 0 * _ + 1 * (i a).val = (i a).val
  omega
theorem iblk3 (t : Fin cfg0.N) : (iblk m c 3 t : Vec F S4x108x128 .f32) = V m c main_v3 := by
  unfold iblk
  funext i
  refine congrArg (V m c main_v3) (funext fun a => Fin.ext ?_)
  show 0 * _ + 1 * (i a).val = (i a).val
  omega
theorem iblk4 (t : Fin cfg0.N) : (iblk m c 4 t : Vec F S4x3x108x128 .f32) = V m c main_v4 := by
  unfold iblk
  funext i
  refine congrArg (V m c main_v4) (funext fun a => Fin.ext ?_)
  show 0 * _ + 1 * (i a).val = (i a).val
  omega
theorem iblk5 (t : Fin cfg0.N) : (iblk m c 5 t : Vec F S4x3x108x128 .f32) = V m c main_v5 := by
  unfold iblk
  funext i
  refine congrArg (V m c main_v5) (funext fun a => Fin.ext ?_)
  show 0 * _ + 1 * (i a).val = (i a).val
  omega

end Entry

section Casts

/-- An array's entries at equal coordinates. -/
theorem at_congr {n0 n1 n2 n3 n4 : ℕ} (X : (⟨5, ![n0, n1, n2, n3, n4]⟩ : Shape).Idx → EReal) (b : Fin n0) (d : Fin n1)
    {i i' : Fin n2} {j j' : Fin n3} {l l' : Fin n4} (h1 : i = i') (h2 : j = j') (h3 : l = l') :
    X (ix5 b d i j l) = X (ix5 b d i' j' l') := by
  rw [h1, h2, h3]

/-- A reshaped argument, position by position. -/
theorem cast_c1 (X : Vec Ideal S4x1x48x48x48 .f32) (b : Fin 4) (p : Fin 110592) :
    flat1 (shapeCast S4x864x128 X shapeCasts_S4x1x48x48x48_S4x864x128) b p = at1 X b 0 p := by
  have hp := p.isLt
  unfold flat1 at1
  simp only [pointwise]
  refine at_congr X b 0 (Fin.ext ?_) (Fin.ext ?_) (Fin.ext ?_) <;> dsimp only <;> omega
theorem cast_c2 (X : Vec Ideal S4x1x24x24x24 .f32) (b : Fin 4) (p : Fin 13824) :
    flat2 (shapeCast S4x108x128 X shapeCasts_S4x1x24x24x24_S4x108x128) b p = at2 X b 0 p := by
  have hp := p.isLt
  refine congrArg X (Shape.reshapeEquiv_eq_of_vals _ _ _ _ _ (rowMajor_val5 _ 13824 13824 576 24 (by decide) (by decide) (by decide) rfl)
    (rowMajor_val3 _ 13824 128 (by decide) rfl) ?_)
  show b.val * 13824 + 0 * 13824 + p.val / 576 * 576 + p.val / 24 % 24 * 24 + p.val % 24 = b.val * 13824 + p.val / 128 * 128 + p.val % 128
  omega
theorem cast_s1 (X : Vec Ideal S4x3x48x48x48 .f32) (b : Fin 4) (d : Fin 3) (p : Fin 110592) :
    shapeCast S4x3x864x128 X shapeCasts_S4x3x48x48x48_S4x3x864x128
      (ix4 b d ⟨p.val / 128, by have := p.isLt; omega⟩ ⟨p.val % 128, by omega⟩) = at1 X b d p := by
  have hp := p.isLt
  unfold at1
  simp only [pointwise]
  refine at_congr X b d (Fin.ext ?_) (Fin.ext ?_) (Fin.ext ?_) <;> dsimp only <;> omega
theorem cast_s2 (X : Vec Ideal S4x3x24x24x24 .f32) (b : Fin 4) (d : Fin 3) (p : Fin 13824) :
    shapeCast S4x3x108x128 X shapeCasts_S4x3x24x24x24_S4x3x108x128
      (ix4 b d ⟨p.val / 128, by have := p.isLt; omega⟩ ⟨p.val % 128, by omega⟩) = at2 X b d p := by
  have hp := p.isLt
  refine congrArg X (Shape.reshapeEquiv_eq_of_vals _ _ _ _ _ (rowMajor_val5 _ 41472 13824 576 24 (by decide) (by decide) (by decide) rfl)
    (rowMajor_val4 _ 41472 13824 128 (by decide) (by decide) rfl) ?_)
  show b.val * 41472 + d.val * 13824 + p.val / 576 * 576 + p.val / 24 % 24 * 24 + p.val % 24
    = b.val * 41472 + d.val * 13824 + p.val / 128 * 128 + p.val % 128
  omega

end Casts

section Args

variable (m : (ℓ : Loc nD τ sig) → Buf (Elt Ideal) ℓ) (c : Dev nD)

/-- The arguments the run starts from. -/
def kerArgs : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- The blocks the body reads hold the arguments. -/
theorem blocks_args (t : Fin cfg0.N) :
    Blocks (kerArgs m c) (iblk m c 0 t) (iblk m c 1 t) (iblk m c 2 t) (iblk m c 3 t) (iblk m c 4 t) (iblk m c 5 t) where
  c1 b p := (congrArg (fun X => flat1 X b p) ((iblk0 m c t).trans (V_main_v0 m c))).trans (cast_c1 _ b p)
  c2 b p := (congrArg (fun X => flat2 X b p) ((iblk3 m c t).trans (V_main_v3 m c))).trans (cast_c2 _ b p)
  s1 b d p := (congrFun ((iblk1 m c t).trans (V_main_v1 m c)) _).trans (cast_s1 _ b d p)
  o1 b d p := (congrFun ((iblk2 m c t).trans (V_main_v2 m c)) _).trans (cast_s1 _ b d p)
  s2 b d p := (congrFun ((iblk4 m c t).trans (V_main_v4 m c)) _).trans (cast_s2 _ b d p)
  o2 b d p := (congrFun ((iblk5 m c t).trans (V_main_v5 m c)) _).trans (cast_s2 _ b d p)

end Args

end Cert.Proof

end
-- ==== Proof.KerOut.lean ====
/-
  What the kernel leaves: the rows of the greedy selection over the candidates of its arguments.
-/
module

public import proofs.«01_k».proof.Proof.KerIn

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen

section Pieces

variable (c : Dev nD)
  (arg0 : Memref sig .tc .vmem S4x864x128 .f32) (harg0 : arg0.IsWhole)
  (arg1 : Memref sig .tc .vmem S4x3x864x128 .f32) (harg1 : arg1.IsWhole)
  (arg2 : Memref sig .tc .vmem S4x3x864x128 .f32) (harg2 : arg2.IsWhole)
  (arg3 : Memref sig .tc .vmem S4x108x128 .f32) (harg3 : arg3.IsWhole)
  (arg4 : Memref sig .tc .vmem S4x3x108x128 .f32) (harg4 : arg4.IsWhole)
  (arg5 : Memref sig .tc .vmem S4x3x108x128 .f32) (harg5 : arg5.IsWhole)
  (arg6 : Memref sig .tc .vmem S4x120x8 .f32) (harg6 : arg6.IsWhole)
  (arg7 : Memref sig .tc .vmem S4x864x128 .f32) (harg7 : arg7.IsWhole)
  (arg8 : Memref sig .tc .vmem S4x108x128 .f32) (harg8 : arg8.IsWhole)
  {A : Args} {x0 : Vec Ideal S4x864x128 .f32} {x1 x2 : Vec Ideal S4x3x864x128 .f32}
  {x3 : Vec Ideal S4x108x128 .f32} {x4 x5 : Vec Ideal S4x3x108x128 .f32}

theorem off1_eq : ∀ k, k0_off1 k = ![0, k.val, 0] := by decide +kernel
theorem off2_eq : ∀ k, k0_off2 k = ![1, k.val, 0] := by decide +kernel
theorem off3_eq : ∀ k, k0_off3 k = ![2, k.val, 0] := by decide +kernel
theorem off4_eq : ∀ k, k0_off4 k = ![3, k.val, 0] := by decide +kernel

/-- A piece over the whole block decides every entry. -/
theorem canon_whole {s : Shape} {e : EltTy} (off : Fin s.rank → ℕ) (hoff : off = fun _ => 0) (inb : ∀ a, off a + s.size a ≤ s.size a)
    (w : Vec Ideal s e) (L : List (View.Piece (Elt Ideal) s e)) (y : s.Idx) :
    View.canon (⟨Rect.unit (s := s) off s.size inb, w⟩ :: L) y = w y := by
  subst hoff
  have hy : y = (Rect.unit (s := s) (fun _ => 0) s.size inb).emb y := by
    funext a
    apply Fin.ext
    rw [Rect.emb_apply, Rect.off_unit, Rect.stride_unit, Nat.one_mul, Nat.zero_add]
  conv_lhs => rw [hy]
  exact View.canon_cons_emb (Val := Elt Ideal) (Rect.unit (s := s) (fun _ => 0) s.size inb) w L y

/-- What the output block starts from. -/
theorem fill_apply (y : S4x120x8.Idx) : View.canon (kernelRun0_A.sl.H6_1 (F := Ideal)) y = -1 := by
  have hz : (![0, 0, 0] : Fin 3 → ℕ) = fun _ => 0 := by funext a; fin_cases a <;> rfl
  unfold kernelRun0_A.sl.H6_1
  exact (canon_whole (s := S4x120x8) ![0, 0, 0] hz inb_S4x120x8_S4x120x8_0_0_0 _ _ y).trans bits_neg_one

/-- What one image's twenty rows make of the block. -/
theorem canon_rowPieces {n : ℕ} (hn : n = 20) (off : Fin n → Fin 3 → ℕ) (inb) (row : ℕ → FVec Ideal S1x1x8 .f32) (i : ℕ)
    (hoff : ∀ k, off k = ![i, k.val, 0]) (L : List (View.Piece (Elt Ideal) S4x120x8 .f32)) (b : Fin 4) (r : Fin 120) (q : Fin 8) :
    View.canon (rowPieces off inb row n ++ L) (ix3 b r q)
      = if b.val = i ∧ r.val < 20 then row r.val (ix3 0 0 q) else View.canon L (ix3 b r q) := by
  by_cases h : b.val = i ∧ r.val < 20
  · rw [if_pos h]
    exact canon_rowPieces_hit off inb row i hoff L (ix3 b r q) h.1 n le_rfl (hn ▸ h.2)
  · rw [if_neg h]
    exact canon_rowPieces_miss off inb row i hoff L (ix3 b r q) n le_rfl (fun e => h ⟨e.1, hn ▸ e.2⟩)

/-- The output block, entry by entry. -/
theorem Blocks.out (h : Blocks A x0 x1 x2 x3 x4 x5) (b : Fin 4) (r : Fin 120) (q : Fin 8) :
    out0_A_6 c arg0 harg0 arg1 harg1 arg2 harg2 arg3 harg3 arg4 harg4 arg5 harg5 arg6 harg6 arg7 harg7 arg8 harg8 x0 x1 x2 x3 x4 x5 (ix3 b r q)
      = detOf A b r q := by
  unfold out0_A_6
  rw [View.read_writes_eq_canon _ _ _ (cover0_A_6 c arg0 harg0 arg1 harg1 arg2 harg2 arg3 harg3 arg4 harg4 arg5 harg5 arg6 harg6 arg7 harg7 arg8 harg8 x0 x1 x2 x3 x4 x5),
    run_pieces, carOf_eq, canon_rowPieces (by decide) _ _ _ 3 off4_eq, canon_rowPieces (by decide) _ _ _ 2 off3_eq,
    canon_rowPieces (by decide) _ _ _ 1 off2_eq, canon_rowPieces (by decide) _ _ _ 0 off1_eq, fill_apply,
    (h.feeds arg1 harg1 arg2 harg2 arg4 harg4 arg5 harg5 3 (by decide)).rows,
    (h.feeds arg1 harg1 arg2 harg2 arg4 harg4 arg5 harg5 2 (by decide)).rows,
    (h.feeds arg1 harg1 arg2 harg2 arg4 harg4 arg5 harg5 1 (by decide)).rows,
    (h.feeds arg1 harg1 arg2 harg2 arg4 harg4 arg5 harg5 0 (by decide)).rows]
  unfold detOf
  by_cases hr : r.val < 20
  · rw [if_pos hr]
    simp only [hr, and_true]
    match b with
    | ⟨0, _⟩ => rfl
    | ⟨1, _⟩ => rfl
    | ⟨2, _⟩ => rfl
    | ⟨3, _⟩ => rfl
  · simp only [hr, and_false, if_false]

end Pieces

/-- The kernel's result, entry by entry. -/
theorem ker_det (m : (ℓ : Loc nD τ sig) → Buf (Elt Ideal) ℓ) (c : Dev nD) (b : Fin 4) (r : Fin 120) (q : Fin 8) :
    ((dats m 0 c).arrAt 6 cfg0.N : Vec Ideal S4x120x8 .f32) (ix3 b r q) = detOf (kerArgs m c) b r q := by
  have hf : (cfg0.win 6).flush t0_0 = true := by decide
  have h := Value.blocks6 m c t0_0 hf
  rw [Value.flushed6_A] at h
  refine Eq.trans ?_ ((congrFun h (ix3 b r q)).trans
    (Blocks.out c _ _ _ _ _ _ _ _ _ _ _ _ _ _ _ _ _ _ (blocks_args m c t0_0) b r q))
  refine congrArg ((dats m 0 c).arrAt 6 cfg0.N) (funext fun a => Fin.ext ?_)
  show _ = 0 * _ + 1 * ((ix3 b r q : S4x120x8.Idx) a).val
  omega

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.KernelIdeal.Value
public import proofs.«01_k».proof.Proof.RefEntry
public import proofs.«01_k».proof.Proof.RefValue
public import proofs.«01_k».proof.Proof.KerOut
public import Idealize.ShloMosaic.Adequacy
public import Idealize.ShloMosaic.Init
public import Idealize.ShloMosaic.Lib.Quiescent

@[expose] public section

noncomputable section

namespace Cert.Proof

open Idealize.ShloMosaic Idealize.SL.Sem Cert.Kernel

section Algebraic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's loop state on core `c`, after each number of rounds. -/
def refStates (c : Dev Cert.ReferenceIdeal.nD) : ℕ → Cert.ReferenceIdeal.Step.State Ideal :=
  stateOf (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))

/-- From equal arguments the kernel's result is the reference's last state. -/
theorem results_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (refStates m' c 20).main_v85_4 = (Cert.KernelIdeal.Gen.dats m 0 c).arrAt 6 Cert.KernelIdeal.cfg0.N := by
  unfold refStates
  rw [h0, h1, h2, h3, h4, h5]
  funext i
  have hi : i = ix3 (i 0) (i 1) (i 2) := by
    funext a
    fin_cases a <;> rfl
  rw [hi]
  exact (ref_det _ _ _ _ _ _ (i 0) (i 1) (i 2)).trans (ker_det m c (i 0) (i 1) (i 2)).symm

end Algebraic

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, fun m ρ _ => ?_, ?_,
    fun m ρ m' ρ' _ hagree => ⟨fun c => (Cert.KernelIdeal.Gen.dats m 0 c).arrAt 6 Cert.KernelIdeal.cfg0.N,
      Cert.KernelIdeal.Value.run_blocks m ρ, ?_⟩⟩
  · exact (θ_run _ _ _).mono (fun r h => ⟨fun c => (h c).2, Idealize.ShloMosaic.sem_eq_zero_of_no_sems (by decide) r.2⟩)
      (Cert.ReferenceIdeal.Value.run (F := Ideal) m ρ)
  · exact IdealRules.named_const.statement Cert.KernelIdeal.κ "neg" .f32 0xF149F2CA#32 ⊥ rfl
  · refine (θ_run _ _ _).mono (fun _ h c => ⟨(h c).1.trans ?_, (h c).2⟩)
      (RefRun.run_iter m' ρ' (refStates m') (fun _ => rfl) (fun _ _ => rfl))
    obtain ⟨h0, h1, h2, h3, h4, h5⟩ := hagree c
    exact results_eq m m' c h0 h1 h2 h3 h4 h5⟩

end Cert.Proof

end
